-- ==== Defs.lean ====
def Pre_Kernel [hPre_coords_in_grid : Cert.Pre_coords_in_grid.Facts] (m : (ℓ : Loc Cert.Kernel.nD Cert.Kernel.τ Cert.Kernel.sig) → Buf (Elt Bits) ℓ) : Prop :=
  ∀ c : Dev Cert.Kernel.nD,
    (Cert.Pre_coords_in_grid.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_coords_in_grid : Cert.Pre_coords_in_grid.Facts] (m : (ℓ : Loc Cert.KernelIdeal.nD Cert.KernelIdeal.τ Cert.KernelIdeal.sig) → Buf (Elt Ideal) ℓ) : Prop :=
  ∀ c : Dev Cert.KernelIdeal.nD,
    (Cert.Pre_coords_in_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_coords_in_grid_feats_above [hPre_coords_in_grid_feats_above : Cert.Pre_coords_in_grid_feats_above.Facts] (m : (ℓ : Loc Cert.KernelIdeal.nD Cert.KernelIdeal.τ Cert.KernelIdeal.sig) → Buf (Elt Ideal) ℓ) : Prop :=
  ∀ c : Dev Cert.KernelIdeal.nD,
    (Cert.Pre_coords_in_grid_feats_above.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_coords_in_grid_feats_above.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_coords_in_grid_feats_above [hPre_coords_in_grid_feats_above : Cert.Pre_coords_in_grid_feats_above.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_coords_in_grid_feats_above.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_coords_in_grid_feats_above.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] [hPre_coords_in_grid : Cert.Pre_coords_in_grid.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_coords_in_grid : Cert.Pre_coords_in_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_coords_in_grid_feats_above [hKernelIdeal : Cert.KernelIdeal.Facts] [hPre_coords_in_grid_feats_above : Cert.Pre_coords_in_grid_feats_above.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_coords_in_grid_feats_above m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_coords_in_grid_feats_above [hReferenceIdeal : Cert.ReferenceIdeal.Facts] [hPre_coords_in_grid_feats_above : Cert.Pre_coords_in_grid_feats_above.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_coords_in_grid_feats_above m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_coords_in_grid_feats_above [hKernelIdeal : Cert.KernelIdeal.Facts] [hReferenceIdeal : Cert.ReferenceIdeal.Facts] [hPre_coords_in_grid_feats_above : Cert.Pre_coords_in_grid_feats_above.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_coords_in_grid_feats_above m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_coords_in_grid : Cert.Pre_coords_in_grid.Facts) (hPre_coords_in_grid_feats_above : Cert.Pre_coords_in_grid_feats_above.Facts),
    quiescent_Kernel (hKernel := hKernel) (hPre_coords_in_grid := hPre_coords_in_grid)
    ∧ quiescent_KernelIdeal (hKernelIdeal := hKernelIdeal) (hPre_coords_in_grid := hPre_coords_in_grid)
    ∧ quiescent_KernelIdeal_pre_coords_in_grid_feats_above (hKernelIdeal := hKernelIdeal) (hPre_coords_in_grid_feats_above := hPre_coords_in_grid_feats_above)
    ∧ quiescent_ReferenceIdeal (hReferenceIdeal := hReferenceIdeal)
    ∧ quiescent_ReferenceIdeal_pre_coords_in_grid_feats_above (hReferenceIdeal := hReferenceIdeal) (hPre_coords_in_grid_feats_above := hPre_coords_in_grid_feats_above)
    ∧ preserves_Kernel_KernelIdeal
    ∧ algebraic_KernelIdeal_ReferenceIdeal_pre_coords_in_grid_feats_above (hKernelIdeal := hKernelIdeal) (hReferenceIdeal := hReferenceIdeal) (hPre_coords_in_grid_feats_above := hPre_coords_in_grid_feats_above)
-- ==== Pre_coords_in_grid.lean ====
abbrev S1000000x128 : Shape := ⟨2, ![1000000, 128]⟩
abbrev S1000000x3 : Shape := ⟨2, ![1000000, 3]⟩
abbrev S_ : Shape := ⟨0, ![]⟩

class Facts : Prop where
  bcast_S_S1000000x3 : S_.BroadcastsInDim S1000000x3 (![] : Fin 0 → Fin S1000000x3.rank)

variable [Facts]

def fn {F : FTy → Type} [FloatOps F] (main_arg0 : FVec F S1000000x128 .f32) (main_arg1 : IVec S1000000x3 32) : IVec S1000000x3 1 :=
  let main_c : IVec S_ 32 := constantI S_ 32 0#32
  let main_v0 : IVec S1000000x3 32 := broadcastInDim S1000000x3 ![] bcast_S_S1000000x3 main_c
  let main_v1 : IVec S1000000x3 1 := cmpi .sge main_arg1 main_v0
  let main_c_0 : IVec S_ 32 := constantI S_ 32 64#32
  let main_v2 : IVec S1000000x3 32 := broadcastInDim S1000000x3 ![] bcast_S_S1000000x3 main_c_0
  let main_v3 : IVec S1000000x3 1 := cmpi .slt main_arg1 main_v2
  let main_v4 : IVec S1000000x3 1 := andi main_v1 main_v3
  main_v4
-- ==== Pre_coords_in_grid_feats_above.lean ====
abbrev S1000000x128 : Shape := ⟨2, ![1000000, 128]⟩
abbrev S1000000x3 : Shape := ⟨2, ![1000000, 3]⟩
abbrev S_ : Shape := ⟨0, ![]⟩

class Facts : Prop where
  bcast_S_S1000000x3 : S_.BroadcastsInDim S1000000x3 (![] : Fin 0 → Fin S1000000x3.rank)
  bcast_S_S1000000x128 : S_.BroadcastsInDim S1000000x128 (![] : Fin 0 → Fin S1000000x128.rank)

variable [Facts]

def fn {F : FTy → Type} [FloatOps F] (main_arg0 : FVec F S1000000x128 .f32) (main_arg1 : IVec S1000000x3 32) : IVec S1000000x3 1 × IVec S1000000x128 1 :=
  let main_c : IVec S_ 32 := constantI S_ 32 0#32
  let main_v0 : IVec S1000000x3 32 := broadcastInDim S1000000x3 ![] bcast_S_S1000000x3 main_c
  let main_v1 : IVec S1000000x3 1 := cmpi .sge main_arg1 main_v0
  let main_c_0 : IVec S_ 32 := constantI S_ 32 64#32
  let main_v2 : IVec S1000000x3 32 := broadcastInDim S1000000x3 ![] bcast_S_S1000000x3 main_c_0
  let main_v3 : IVec S1000000x3 1 := cmpi .slt main_arg1 main_v2
  let main_v4 : IVec S1000000x3 1 := andi main_v1 main_v3
  let main_cst : FVec F S_ .f32 := constant S_ .f32 0xFF800000#32
  let main_v5 : FVec F S1000000x128 .f32 := broadcastInDim S1000000x128 ![] bcast_S_S1000000x128 main_cst
  let main_v6 : IVec S1000000x128 1 := cmpf .ogt main_arg0 main_v5
  (main_v4, main_v6)
-- ==== Kernel.lean ====
abbrev S1000000x128 : Shape := ⟨2, ![1000000, 128]⟩
abbrev S1000000x3 : Shape := ⟨2, ![1000000, 3]⟩
abbrev S_ : Shape := ⟨0, ![]⟩
abbrev S1000000x1 : Shape := ⟨2, ![1000000, 1]⟩
abbrev S1000000 : Shape := ⟨1, ![1000000]⟩
abbrev S100x10000 : Shape := ⟨2, ![100, 10000]⟩
abbrev S1000000x1x128 : Shape := ⟨3, ![1000000, 1, 128]⟩
abbrev S32768x1x128 : Shape := ⟨3, ![32768, 1, 128]⟩
abbrev S10000x1x128 : Shape := ⟨3, ![10000, 1, 128]⟩
abbrev S2x10000 : Shape := ⟨2, ![2, 10000]⟩
abbrev S2 : Shape := ⟨1, ![2]⟩
abbrev S1 : Shape := ⟨1, ![1]⟩
abbrev S1x10000 : Shape := ⟨2, ![1, 10000]⟩
abbrev S10000 : Shape := ⟨1, ![10000]⟩
abbrev S1x1 : Shape := ⟨2, ![1, 1]⟩
abbrev S1x1x128 : Shape := ⟨3, ![1, 1, 128]⟩
abbrev S128 : Shape := ⟨1, ![128]⟩
abbrev S32768x128 : Shape := ⟨2, ![32768, 128]⟩

abbrev nBuf : Space → Nat
  | .hbm => 38
  | .vmem => 3
  | .smem => 1
  | _ => 0

abbrev bufTy : (tb : Table) → Fin (tcTables nBuf tb) → BufTy
  | .hbm, ⟨0, _⟩ => ⟨S1000000x128, .f32⟩
  | .hbm, ⟨1, _⟩ => ⟨S1000000x3, .i32⟩
  | .hbm, ⟨2, _⟩ => ⟨S_, .i32⟩
  | .hbm, ⟨3, _⟩ => ⟨S_, .i32⟩
  | .hbm, ⟨4, _⟩ => ⟨S1000000x3, .i32⟩
  | .hbm, ⟨5, _⟩ => ⟨S1000000x3, .i32⟩
  | .hbm, ⟨6, _⟩ => ⟨S1000000x3, .i32⟩
  | .hbm, ⟨7, _⟩ => ⟨S_, .i32⟩
  | .hbm, ⟨8, _⟩ => ⟨S1000000x3, .i32⟩
  | .hbm, ⟨9, _⟩ => ⟨S1000000x3, .i1⟩
  | .hbm, ⟨10, _⟩ => ⟨S1000000x3, .i32⟩
  | .hbm, ⟨11, _⟩ => ⟨S1000000x3, .i32⟩
  | .hbm, ⟨12, _⟩ => ⟨S_, .i32⟩
  | .hbm, ⟨13, _⟩ => ⟨S1000000x3, .i32⟩
  | .hbm, ⟨14, _⟩ => ⟨S1000000x3, .i1⟩
  | .hbm, ⟨15, _⟩ => ⟨S1000000x3, .i1⟩
  | .hbm, ⟨16, _⟩ => ⟨S_, .i32⟩
  | .hbm, ⟨17, _⟩ => ⟨S1000000x3, .i32⟩
  | .hbm, ⟨18, _⟩ => ⟨S1000000x3, .i32⟩
  | .hbm, ⟨19, _⟩ => ⟨S1000000x3, .i32⟩
  | .hbm, ⟨20, _⟩ => ⟨S1000000x1, .i32⟩
  | .hbm, ⟨21, _⟩ => ⟨S1000000, .i32⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1000000, .i32⟩
  | .hbm, ⟨27, _⟩ => ⟨S1000000, .i32⟩
  | .hbm, ⟨28, _⟩ => ⟨S_, .i32⟩
  | .hbm, ⟨29, _⟩ => ⟨S1000000, .i32⟩
  | .hbm, ⟨30, _⟩ => ⟨S1000000, .i32⟩
  | .hbm, ⟨31, _⟩ => ⟨S1000000x1, .i32⟩
  | .hbm, ⟨32, _⟩ => ⟨S1000000, .i32⟩
  | .hbm, ⟨33, _⟩ => ⟨S1000000, .i32⟩
  | .hbm, ⟨34, _⟩ => ⟨S100x10000, .i32⟩
  | .hbm, ⟨35, _⟩ => ⟨S1000000x1x128, .f32⟩
  | .hbm, ⟨36, _⟩ => ⟨S32768x1x128, .f32⟩
  | .hbm, ⟨37, _⟩ => ⟨S32768x128, .f32⟩
  | .local _ .vmem, ⟨0, _⟩ => ⟨S10000x1x128, .f32⟩
  | .local _ .vmem, ⟨1, _⟩ => ⟨S10000x1x128, .f32⟩
  | .local _ .vmem, ⟨2, _⟩ => ⟨S32768x1x128, .f32⟩
  | .local _ .smem, ⟨0, _⟩ => ⟨S2x10000, .i32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_c : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_c_0 : Ref sig .tc := ⟨.hbm, 16, rfl⟩
abbrev main_call0_v12 : Ref sig .tc := ⟨.hbm, 17, rfl⟩
abbrev main_call0_v13 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_c_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![100], ![false]⟩

def k0_cond2 (i : grid0.Coords) : BitVec 1 :=
  let arg0 : BitVec 32 := BitVec.ofNat 32 (i 0).val
  let c1_i32 : BitVec 32 := 1#32
  let v4 : BitVec 32 := Scalar.addi arg0 c1_i32
  let c100_i32 : BitVec 32 := 100#32
  let v5 : BitVec 1 := Scalar.cmpi .slt v4 c100_i32
  let v6 : BitVec 32 := Scalar.extui v5
  let c0_i32_1 : BitVec 32 := 0#32
  let v7 : BitVec 1 := Scalar.cmpi .ne v6 c0_i32_1
  v7

def k0_off1 (i : grid0.Coords) : Fin 1 → Nat :=
  let arg0 : BitVec 32 := BitVec.ofNat 32 (i 0).val
  let c1_i32_8 : BitVec 32 := 1#32
  let v18 : BitVec 32 := Scalar.addi arg0 c1_i32_8
  let c2_i32_9 : BitVec 32 := 2#32
  let v19 : BitVec 32 := Scalar.remsi v18 c2_i32_9
  ![v19.toNat]
def k0_off2 (i : grid0.Coords) : Fin 2 → Nat :=
  let arg0 : BitVec 32 := BitVec.ofNat 32 (i 0).val
  let c1_i32_8 : BitVec 32 := 1#32
  let v18 : BitVec 32 := Scalar.addi arg0 c1_i32_8
  let c2_i32_9 : BitVec 32 := 2#32
  let v19 : BitVec 32 := Scalar.remsi v18 c2_i32_9
  let c0_i32_11 : BitVec 32 := 0#32
  ![v19.toNat, 0]
def k0_off3 (i : grid0.Coords) : Fin 2 → Nat :=
  let arg0 : BitVec 32 := BitVec.ofNat 32 (i 0).val
  let c1_i32_10 : BitVec 32 := 1#32
  let v20 : BitVec 32 := Scalar.addi arg0 c1_i32_10
  let c0_i32_12 : BitVec 32 := 0#32
  ![v20.toNat, 0]
def k0_off4 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off5 (i : grid0.Coords) : Fin 2 → Nat :=
  let arg0 : BitVec 32 := BitVec.ofNat 32 (i 0).val
  let c2_i32 : BitVec 32 := 2#32
  let v0 : BitVec 32 := Scalar.remsi arg0 c2_i32
  let c0_i32_2 : BitVec 32 := 0#32
  ![v0.toNat, 0]
def k0_off6 (i : grid0.Coords) : Fin 2 → Nat :=
  let arg0 : BitVec 32 := BitVec.ofNat 32 (i 0).val
  let c0_i32_3 : BitVec 32 := 0#32
  ![arg0.toNat, 0]
@[reducible] def k0_t1_loop : Scf.Loop 32 :=
  let c0_i32_4 : BitVec 32 := 0#32
  let c500_i32 : BitVec 32 := 500#32
  let v14 : BitVec 32 := Scalar.addi c0_i32_4 c500_i32
  let c1_i32_5 : BitVec 32 := 1#32
  ⟨c0_i32_4, v14, c1_i32_5⟩
def k0_off7 (i : grid0.Coords) (k0_t1 : Fin k0_t1_loop.trips) (c0_i32_9 : BitVec 32) : Fin 2 → Nat :=
  let arg0 : BitVec 32 := BitVec.ofNat 32 (i 0).val
  let c2_i32 : BitVec 32 := 2#32
  let v0 : BitVec 32 := Scalar.remsi arg0 c2_i32
  let v23 : Index := Scalar.indexCast v0
  let c0_i32_4 : BitVec 32 := 0#32
  let c1_i32_5 : BitVec 32 := 1#32
  let arg6 : BitVec 32 := Scf.iv c0_i32_4 c1_i32_5 k0_t1
  let c20_i32 : BitVec 32 := 20#32
  let v18 : BitVec 32 := Scalar.muli arg6 c20_i32
  let c0_i32_8 : BitVec 32 := 0#32
  let v19 : BitVec 32 := Scalar.addi v18 c0_i32_8
  let v20 : BitVec 32 := Scalar.addi v19 c0_i32_9
  let v24 : Index := Scalar.indexCast v20
  ![v23.toNat, v24.toNat]
def k0_off8 (v25 : BitVec 32) : Fin 3 → Nat :=
  let v29 : Index := Scalar.indexCast v25
  let c0 : Index := 0#32
  let c0_12 : Index := 0#32
  ![v29.toNat, 0, 0]

def k0_off9 (k0_t1 : Fin k0_t1_loop.trips) : Fin 3 → Nat :=
  let c0_i32_4 : BitVec 32 := 0#32
  let c1_i32_5 : BitVec 32 := 1#32
  let arg6 : BitVec 32 := Scf.iv c0_i32_4 c1_i32_5 k0_t1
  let c20_i32 : BitVec 32 := 20#32
  let v18 : BitVec 32 := Scalar.muli arg6 c20_i32
  let c0_i32_8 : BitVec 32 := 0#32
  let v19 : BitVec 32 := Scalar.addi v18 c0_i32_8
  let c0_i32_9 : BitVec 32 := 0#32
  let v20 : BitVec 32 := Scalar.addi v19 c0_i32_9
  let v32 : Index := Scalar.indexCast v20
  let c0_13 : Index := 0#32
  let c0_14 : Index := 0#32
  ![v32.toNat, 0, 0]
def k0_off10 (v28 : BitVec 32) : Fin 3 → Nat :=
  let v36 : Index := Scalar.indexCast v28
  let c0_15 : Index := 0#32
  let c0_16 : Index := 0#32
  ![v36.toNat, 0, 0]

def k0_chk2 (v28 : BitVec 32) : Prop :=
  (∀ a, (k0_off10 v28) a + S1x1x128.size a ≤ S32768x1x128.size a)
theorem k0_off10_inb : ∀ (v28 : BitVec 32) (k0_hw2 : k0_chk2 v28), ∀ a, (k0_off10 v28) a + S1x1x128.size a ≤ S32768x1x128.size a := fun v28 k0_hw2 => k0_hw2

def k0_off11 (k0_t1 : Fin k0_t1_loop.trips) : Fin 3 → Nat :=
  let c0_i32_4 : BitVec 32 := 0#32
  let c1_i32_5 : BitVec 32 := 1#32
  let arg6 : BitVec 32 := Scf.iv c0_i32_4 c1_i32_5 k0_t1
  let c20_i32 : BitVec 32 := 20#32
  let v18 : BitVec 32 := Scalar.muli arg6 c20_i32
  let c0_i32_10 : BitVec 32 := 0#32
  let v21 : BitVec 32 := Scalar.addi v18 c0_i32_10
  let c1_i32_11 : BitVec 32 := 1#32
  let v22 : BitVec 32 := Scalar.addi v21 c1_i32_11
  let v39 : Index := Scalar.indexCast v22
  let c0_17 : Index := 0#32
  let c0_18 : Index := 0#32
  ![v39.toNat, 0, 0]
def k0_off12 (v25 : BitVec 32) : Fin 3 → Nat :=
  let v47 : Index := Scalar.indexCast v25
  let c0_19 : Index := 0#32
  let c0_20 : Index := 0#32
  ![v47.toNat, 0, 0]

def k0_chk1 (v25 : BitVec 32) : Prop :=
  (∀ a, (k0_off8 v25) a + S1x1x128.size a ≤ S32768x1x128.size a) ∧
  (∀ a, (k0_off12 v25) a + S1x1x128.size a ≤ S32768x1x128.size a)
theorem k0_off8_inb : ∀ (v25 : BitVec 32) (k0_hw1 : k0_chk1 v25), ∀ a, (k0_off8 v25) a + S1x1x128.size a ≤ S32768x1x128.size a := fun v25 k0_hw1 => k0_hw1.1
theorem k0_off12_inb : ∀ (v25 : BitVec 32) (k0_hw1 : k0_chk1 v25), ∀ a, (k0_off12 v25) a + S1x1x128.size a ≤ S32768x1x128.size a := fun v25 k0_hw1 => k0_hw1.2

def k0_off13 (i : grid0.Coords) (k0_t1 : Fin k0_t1_loop.trips) (c0_i32_24 : BitVec 32) : Fin 2 → Nat :=
  let arg0 : BitVec 32 := BitVec.ofNat 32 (i 0).val
  let c2_i32 : BitVec 32 := 2#32
  let v0 : BitVec 32 := Scalar.remsi arg0 c2_i32
  let v59 : Index := Scalar.indexCast v0
  let c0_i32_4 : BitVec 32 := 0#32
  let c1_i32_5 : BitVec 32 := 1#32
  let arg6 : BitVec 32 := Scf.iv c0_i32_4 c1_i32_5 k0_t1
  let c20_i32 : BitVec 32 := 20#32
  let v18 : BitVec 32 := Scalar.muli arg6 c20_i32
  let c2_i32_23 : BitVec 32 := 2#32
  let v55 : BitVec 32 := Scalar.addi v18 c2_i32_23
  let v56 : BitVec 32 := Scalar.addi v55 c0_i32_24
  let v60 : Index := Scalar.indexCast v56
  ![v59.toNat, v60.toNat]
def k0_off14 (v61 : BitVec 32) : Fin 3 → Nat :=
  let v65 : Index := Scalar.indexCast v61
  let c0_27 : Index := 0#32
  let c0_28 : Index := 0#32
  ![v65.toNat, 0, 0]

def k0_off15 (k0_t1 : Fin k0_t1_loop.trips) : Fin 3 → Nat :=
  let c0_i32_4 : BitVec 32 := 0#32
  let c1_i32_5 : BitVec 32 := 1#32
  let arg6 : BitVec 32 := Scf.iv c0_i32_4 c1_i32_5 k0_t1
  let c20_i32 : BitVec 32 := 20#32
  let v18 : BitVec 32 := Scalar.muli arg6 c20_i32
  let c2_i32_23 : BitVec 32 := 2#32
  let v55 : BitVec 32 := Scalar.addi v18 c2_i32_23
  let c0_i32_24 : BitVec 32 := 0#32
  let v56 : BitVec 32 := Scalar.addi v55 c0_i32_24
  let v68 : Index := Scalar.indexCast v56
  let c0_29 : Index := 0#32
  let c0_30 : Index := 0#32
  ![v68.toNat, 0, 0]
def k0_off16 (v64 : BitVec 32) : Fin 3 → Nat :=
  let v72 : Index := Scalar.indexCast v64
  let c0_31 : Index := 0#32
  let c0_32 : Index := 0#32
  ![v72.toNat, 0, 0]

def k0_chk4 (v64 : BitVec 32) : Prop :=
  (∀ a, (k0_off16 v64) a + S1x1x128.size a ≤ S32768x1x128.size a)
theorem k0_off16_inb : ∀ (v64 : BitVec 32) (k0_hw4 : k0_chk4 v64), ∀ a, (k0_off16 v64) a + S1x1x128.size a ≤ S32768x1x128.size a := fun v64 k0_hw4 => k0_hw4

def k0_off17 (k0_t1 : Fin k0_t1_loop.trips) : Fin 3 → Nat :=
  let c0_i32_4 : BitVec 32 := 0#32
  let c1_i32_5 : BitVec 32 := 1#32
  let arg6 : BitVec 32 := Scf.iv c0_i32_4 c1_i32_5 k0_t1
  let c20_i32 : BitVec 32 := 20#32
  let v18 : BitVec 32 := Scalar.muli arg6 c20_i32
  let c2_i32_25 : BitVec 32 := 2#32
  let v57 : BitVec 32 := Scalar.addi v18 c2_i32_25
  let c1_i32_26 : BitVec 32 := 1#32
  let v58 : BitVec 32 := Scalar.addi v57 c1_i32_26
  let v75 : Index := Scalar.indexCast v58
  let c0_33 : Index := 0#32
  let c0_34 : Index := 0#32
  ![v75.toNat, 0, 0]
def k0_off18 (v61 : BitVec 32) : Fin 3 → Nat :=
  let v83 : Index := Scalar.indexCast v61
  let c0_36 : Index := 0#32
  let c0_37 : Index := 0#32
  ![v83.toNat, 0, 0]

def k0_chk3 (v61 : BitVec 32) : Prop :=
  (∀ a, (k0_off14 v61) a + S1x1x128.size a ≤ S32768x1x128.size a) ∧
  (∀ a, (k0_off18 v61) a + S1x1x128.size a ≤ S32768x1x128.size a)
theorem k0_off14_inb : ∀ (v61 : BitVec 32) (k0_hw3 : k0_chk3 v61), ∀ a, (k0_off14 v61) a + S1x1x128.size a ≤ S32768x1x128.size a := fun v61 k0_hw3 => k0_hw3.1
theorem k0_off18_inb : ∀ (v61 : BitVec 32) (k0_hw3 : k0_chk3 v61), ∀ a, (k0_off18 v61) a + S1x1x128.size a ≤ S32768x1x128.size a := fun v61 k0_hw3 => k0_hw3.2

def k0_off19 (i : grid0.Coords) (k0_t1 : Fin k0_t1_loop.trips) (c0_i32_40 : BitVec 32) : Fin 2 → Nat :=
  let arg0 : BitVec 32 := BitVec.ofNat 32 (i 0).val
  let c2_i32 : BitVec 32 := 2#32
  let v0 : BitVec 32 := Scalar.remsi arg0 c2_i32
  let v95 : Index := Scalar.indexCast v0
  let c0_i32_4 : BitVec 32 := 0#32
  let c1_i32_5 : BitVec 32 := 1#32
  let arg6 : BitVec 32 := Scf.iv c0_i32_4 c1_i32_5 k0_t1
  let c20_i32 : BitVec 32 := 20#32
  let v18 : BitVec 32 := Scalar.muli arg6 c20_i32
  let c4_i32 : BitVec 32 := 4#32
  let v91 : BitVec 32 := Scalar.addi v18 c4_i32
  let v92 : BitVec 32 := Scalar.addi v91 c0_i32_40
  let v96 : Index := Scalar.indexCast v92
  ![v95.toNat, v96.toNat]
def k0_off20 (v97 : BitVec 32) : Fin 3 → Nat :=
  let v101 : Index := Scalar.indexCast v97
  let c0_43 : Index := 0#32
  let c0_44 : Index := 0#32
  ![v101.toNat, 0, 0]

def k0_off21 (k0_t1 : Fin k0_t1_loop.trips) : Fin 3 → Nat :=
  let c0_i32_4 : BitVec 32 := 0#32
  let c1_i32_5 : BitVec 32 := 1#32
  let arg6 : BitVec 32 := Scf.iv c0_i32_4 c1_i32_5 k0_t1
  let c20_i32 : BitVec 32 := 20#32
  let v18 : BitVec 32 := Scalar.muli arg6 c20_i32
  let c4_i32 : BitVec 32 := 4#32
  let v91 : BitVec 32 := Scalar.addi v18 c4_i32
  let c0_i32_40 : BitVec 32 := 0#32
  let v92 : BitVec 32 := Scalar.addi v91 c0_i32_40
  let v104 : Index := Scalar.indexCast v92
  let c0_45 : Index := 0#32
  let c0_46 : Index := 0#32
  ![v104.toNat, 0, 0]
def k0_off22 (v100 : BitVec 32) : Fin 3 → Nat :=
  let v108 : Index := Scalar.indexCast v100
  let c0_47 : Index := 0#32
  let c0_48 : Index := 0#32
  ![v108.toNat, 0, 0]

def k0_chk6 (v100 : BitVec 32) : Prop :=
  (∀ a, (k0_off22 v100) a + S1x1x128.size a ≤ S32768x1x128.size a)
theorem k0_off22_inb : ∀ (v100 : BitVec 32) (k0_hw6 : k0_chk6 v100), ∀ a, (k0_off22 v100) a + S1x1x128.size a ≤ S32768x1x128.size a := fun v100 k0_hw6 => k0_hw6

def k0_off23 (k0_t1 : Fin k0_t1_loop.trips) : Fin 3 → Nat :=
  let c0_i32_4 : BitVec 32 := 0#32
  let c1_i32_5 : BitVec 32 := 1#32
  let arg6 : BitVec 32 := Scf.iv c0_i32_4 c1_i32_5 k0_t1
  let c20_i32 : BitVec 32 := 20#32
  let v18 : BitVec 32 := Scalar.muli arg6 c20_i32
  let c4_i32_41 : BitVec 32 := 4#32
  let v93 : BitVec 32 := Scalar.addi v18 c4_i32_41
  let c1_i32_42 : BitVec 32 := 1#32
  let v94 : BitVec 32 := Scalar.addi v93 c1_i32_42
  let v111 : Index := Scalar.indexCast v94
  let c0_49 : Index := 0#32
  let c0_50 : Index := 0#32
  ![v111.toNat, 0, 0]
def k0_off24 (v97 : BitVec 32) : Fin 3 → Nat :=
  let v119 : Index := Scalar.indexCast v97
  let c0_52 : Index := 0#32
  let c0_53 : Index := 0#32
  ![v119.toNat, 0, 0]

def k0_chk5 (v97 : BitVec 32) : Prop :=
  (∀ a, (k0_off20 v97) a + S1x1x128.size a ≤ S32768x1x128.size a) ∧
  (∀ a, (k0_off24 v97) a + S1x1x128.size a ≤ S32768x1x128.size a)
theorem k0_off20_inb : ∀ (v97 : BitVec 32) (k0_hw5 : k0_chk5 v97), ∀ a, (k0_off20 v97) a + S1x1x128.size a ≤ S32768x1x128.size a := fun v97 k0_hw5 => k0_hw5.1
theorem k0_off24_inb : ∀ (v97 : BitVec 32) (k0_hw5 : k0_chk5 v97), ∀ a, (k0_off24 v97) a + S1x1x128.size a ≤ S32768x1x128.size a := fun v97 k0_hw5 => k0_hw5.2

def k0_off25 (i : grid0.Coords) (k0_t1 : Fin k0_t1_loop.trips) (c0_i32_56 : BitVec 32) : Fin 2 → Nat :=
  let arg0 : BitVec 32 := BitVec.ofNat 32 (i 0).val
  let c2_i32 : BitVec 32 := 2#32
  let v0 : BitVec 32 := Scalar.remsi arg0 c2_i32
  let v131 : Index := Scalar.indexCast v0
  let c0_i32_4 : BitVec 32 := 0#32
  let c1_i32_5 : BitVec 32 := 1#32
  let arg6 : BitVec 32 := Scf.iv c0_i32_4 c1_i32_5 k0_t1
  let c20_i32 : BitVec 32 := 20#32
  let v18 : BitVec 32 := Scalar.muli arg6 c20_i32
  let c6_i32 : BitVec 32 := 6#32
  let v127 : BitVec 32 := Scalar.addi v18 c6_i32
  let v128 : BitVec 32 := Scalar.addi v127 c0_i32_56
  let v132 : Index := Scalar.indexCast v128
  ![v131.toNat, v132.toNat]
def k0_off26 (v133 : BitVec 32) : Fin 3 → Nat :=
  let v137 : Index := Scalar.indexCast v133
  let c0_59 : Index := 0#32
  let c0_60 : Index := 0#32
  ![v137.toNat, 0, 0]

def k0_off27 (k0_t1 : Fin k0_t1_loop.trips) : Fin 3 → Nat :=
  let c0_i32_4 : BitVec 32 := 0#32
  let c1_i32_5 : BitVec 32 := 1#32
  let arg6 : BitVec 32 := Scf.iv c0_i32_4 c1_i32_5 k0_t1
  let c20_i32 : BitVec 32 := 20#32
  let v18 : BitVec 32 := Scalar.muli arg6 c20_i32
  let c6_i32 : BitVec 32 := 6#32
  let v127 : BitVec 32 := Scalar.addi v18 c6_i32
  let c0_i32_56 : BitVec 32 := 0#32
  let v128 : BitVec 32 := Scalar.addi v127 c0_i32_56
  let v140 : Index := Scalar.indexCast v128
  let c0_61 : Index := 0#32
  let c0_62 : Index := 0#32
  ![v140.toNat, 0, 0]
def k0_off28 (v136 : BitVec 32) : Fin 3 → Nat :=
  let v144 : Index := Scalar.indexCast v136
  let c0_63 : Index := 0#32
  let c0_64 : Index := 0#32
  ![v144.toNat, 0, 0]

def k0_chk8 (v136 : BitVec 32) : Prop :=
  (∀ a, (k0_off28 v136) a + S1x1x128.size a ≤ S32768x1x128.size a)
theorem k0_off28_inb : ∀ (v136 : BitVec 32) (k0_hw8 : k0_chk8 v136), ∀ a, (k0_off28 v136) a + S1x1x128.size a ≤ S32768x1x128.size a := fun v136 k0_hw8 => k0_hw8

def k0_off29 (k0_t1 : Fin k0_t1_loop.trips) : Fin 3 → Nat :=
  let c0_i32_4 : BitVec 32 := 0#32
  let c1_i32_5 : BitVec 32 := 1#32
  let arg6 : BitVec 32 := Scf.iv c0_i32_4 c1_i32_5 k0_t1
  let c20_i32 : BitVec 32 := 20#32
  let v18 : BitVec 32 := Scalar.muli arg6 c20_i32
  let c6_i32_57 : BitVec 32 := 6#32
  let v129 : BitVec 32 := Scalar.addi v18 c6_i32_57
  let c1_i32_58 : BitVec 32 := 1#32
  let v130 : BitVec 32 := Scalar.addi v129 c1_i32_58
  let v147 : Index := Scalar.indexCast v130
  let c0_65 : Index := 0#32
  let c0_66 : Index := 0#32
  ![v147.toNat, 0, 0]
def k0_off30 (v133 : BitVec 32) : Fin 3 → Nat :=
  let v155 : Index := Scalar.indexCast v133
  let c0_68 : Index := 0#32
  let c0_69 : Index := 0#32
  ![v155.toNat, 0, 0]

def k0_chk7 (v133 : BitVec 32) : Prop :=
  (∀ a, (k0_off26 v133) a + S1x1x128.size a ≤ S32768x1x128.size a) ∧
  (∀ a, (k0_off30 v133) a + S1x1x128.size a ≤ S32768x1x128.size a)
theorem k0_off26_inb : ∀ (v133 : BitVec 32) (k0_hw7 : k0_chk7 v133), ∀ a, (k0_off26 v133) a + S1x1x128.size a ≤ S32768x1x128.size a := fun v133 k0_hw7 => k0_hw7.1
theorem k0_off30_inb : ∀ (v133 : BitVec 32) (k0_hw7 : k0_chk7 v133), ∀ a, (k0_off30 v133) a + S1x1x128.size a ≤ S32768x1x128.size a := fun v133 k0_hw7 => k0_hw7.2

def k0_off31 (i : grid0.Coords) (k0_t1 : Fin k0_t1_loop.trips) (c0_i32_72 : BitVec 32) : Fin 2 → Nat :=
  let arg0 : BitVec 32 := BitVec.ofNat 32 (i 0).val
  let c2_i32 : BitVec 32 := 2#32
  let v0 : BitVec 32 := Scalar.remsi arg0 c2_i32
  let v167 : Index := Scalar.indexCast v0
  let c0_i32_4 : BitVec 32 := 0#32
  let c1_i32_5 : BitVec 32 := 1#32
  let arg6 : BitVec 32 := Scf.iv c0_i32_4 c1_i32_5 k0_t1
  let c20_i32 : BitVec 32 := 20#32
  let v18 : BitVec 32 := Scalar.muli arg6 c20_i32
  let c8_i32 : BitVec 32 := 8#32
  let v163 : BitVec 32 := Scalar.addi v18 c8_i32
  let v164 : BitVec 32 := Scalar.addi v163 c0_i32_72
  let v168 : Index := Scalar.indexCast v164
  ![v167.toNat, v168.toNat]
def k0_off32 (v169 : BitVec 32) : Fin 3 → Nat :=
  let v173 : Index := Scalar.indexCast v169
  let c0_75 : Index := 0#32
  let c0_76 : Index := 0#32
  ![v173.toNat, 0, 0]

def k0_off33 (k0_t1 : Fin k0_t1_loop.trips) : Fin 3 → Nat :=
  let c0_i32_4 : BitVec 32 := 0#32
  let c1_i32_5 : BitVec 32 := 1#32
  let arg6 : BitVec 32 := Scf.iv c0_i32_4 c1_i32_5 k0_t1
  let c20_i32 : BitVec 32 := 20#32
  let v18 : BitVec 32 := Scalar.muli arg6 c20_i32
  let c8_i32 : BitVec 32 := 8#32
  let v163 : BitVec 32 := Scalar.addi v18 c8_i32
  let c0_i32_72 : BitVec 32 := 0#32
  let v164 : BitVec 32 := Scalar.addi v163 c0_i32_72
  let v176 : Index := Scalar.indexCast v164
  let c0_77 : Index := 0#32
  let c0_78 : Index := 0#32
  ![v176.toNat, 0, 0]
def k0_off34 (v172 : BitVec 32) : Fin 3 → Nat :=
  let v180 : Index := Scalar.indexCast v172
  let c0_79 : Index := 0#32
  let c0_80 : Index := 0#32
  ![v180.toNat, 0, 0]

def k0_chk10 (v172 : BitVec 32) : Prop :=
  (∀ a, (k0_off34 v172) a + S1x1x128.size a ≤ S32768x1x128.size a)
theorem k0_off34_inb : ∀ (v172 : BitVec 32) (k0_hw10 : k0_chk10 v172), ∀ a, (k0_off34 v172) a + S1x1x128.size a ≤ S32768x1x128.size a := fun v172 k0_hw10 => k0_hw10

def k0_off35 (k0_t1 : Fin k0_t1_loop.trips) : Fin 3 → Nat :=
  let c0_i32_4 : BitVec 32 := 0#32
  let c1_i32_5 : BitVec 32 := 1#32
  let arg6 : BitVec 32 := Scf.iv c0_i32_4 c1_i32_5 k0_t1
  let c20_i32 : BitVec 32 := 20#32
  let v18 : BitVec 32 := Scalar.muli arg6 c20_i32
  let c8_i32_73 : BitVec 32 := 8#32
  let v165 : BitVec 32 := Scalar.addi v18 c8_i32_73
  let c1_i32_74 : BitVec 32 := 1#32
  let v166 : BitVec 32 := Scalar.addi v165 c1_i32_74
  let v183 : Index := Scalar.indexCast v166
  let c0_81 : Index := 0#32
  let c0_82 : Index := 0#32
  ![v183.toNat, 0, 0]
def k0_off36 (v169 : BitVec 32) : Fin 3 → Nat :=
  let v191 : Index := Scalar.indexCast v169
  let c0_84 : Index := 0#32
  let c0_85 : Index := 0#32
  ![v191.toNat, 0, 0]

def k0_chk9 (v169 : BitVec 32) : Prop :=
  (∀ a, (k0_off32 v169) a + S1x1x128.size a ≤ S32768x1x128.size a) ∧
  (∀ a, (k0_off36 v169) a + S1x1x128.size a ≤ S32768x1x128.size a)
theorem k0_off32_inb : ∀ (v169 : BitVec 32) (k0_hw9 : k0_chk9 v169), ∀ a, (k0_off32 v169) a + S1x1x128.size a ≤ S32768x1x128.size a := fun v169 k0_hw9 => k0_hw9.1
theorem k0_off36_inb : ∀ (v169 : BitVec 32) (k0_hw9 : k0_chk9 v169), ∀ a, (k0_off36 v169) a + S1x1x128.size a ≤ S32768x1x128.size a := fun v169 k0_hw9 => k0_hw9.2

def k0_off37 (i : grid0.Coords) (k0_t1 : Fin k0_t1_loop.trips) (c0_i32_88 : BitVec 32) : Fin 2 → Nat :=
  let arg0 : BitVec 32 := BitVec.ofNat 32 (i 0).val
  let c2_i32 : BitVec 32 := 2#32
  let v0 : BitVec 32 := Scalar.remsi arg0 c2_i32
  let v203 : Index := Scalar.indexCast v0
  let c0_i32_4 : BitVec 32 := 0#32
  let c1_i32_5 : BitVec 32 := 1#32
  let arg6 : BitVec 32 := Scf.iv c0_i32_4 c1_i32_5 k0_t1
  let c20_i32 : BitVec 32 := 20#32
  let v18 : BitVec 32 := Scalar.muli arg6 c20_i32
  let c10_i32 : BitVec 32 := 10#32
  let v199 : BitVec 32 := Scalar.addi v18 c10_i32
  let v200 : BitVec 32 := Scalar.addi v199 c0_i32_88
  let v204 : Index := Scalar.indexCast v200
  ![v203.toNat, v204.toNat]
def k0_off38 (v205 : BitVec 32) : Fin 3 → Nat :=
  let v209 : Index := Scalar.indexCast v205
  let c0_91 : Index := 0#32
  let c0_92 : Index := 0#32
  ![v209.toNat, 0, 0]

def k0_off39 (k0_t1 : Fin k0_t1_loop.trips) : Fin 3 → Nat :=
  let c0_i32_4 : BitVec 32 := 0#32
  let c1_i32_5 : BitVec 32 := 1#32
  let arg6 : BitVec 32 := Scf.iv c0_i32_4 c1_i32_5 k0_t1
  let c20_i32 : BitVec 32 := 20#32
  let v18 : BitVec 32 := Scalar.muli arg6 c20_i32
  let c10_i32 : BitVec 32 := 10#32
  let v199 : BitVec 32 := Scalar.addi v18 c10_i32
  let c0_i32_88 : BitVec 32 := 0#32
  let v200 : BitVec 32 := Scalar.addi v199 c0_i32_88
  let v212 : Index := Scalar.indexCast v200
  let c0_93 : Index := 0#32
  let c0_94 : Index := 0#32
  ![v212.toNat, 0, 0]
def k0_off40 (v208 : BitVec 32) : Fin 3 → Nat :=
  let v216 : Index := Scalar.indexCast v208
  let c0_95 : Index := 0#32
  let c0_96 : Index := 0#32
  ![v216.toNat, 0, 0]

def k0_chk12 (v208 : BitVec 32) : Prop :=
  (∀ a, (k0_off40 v208) a + S1x1x128.size a ≤ S32768x1x128.size a)
theorem k0_off40_inb : ∀ (v208 : BitVec 32) (k0_hw12 : k0_chk12 v208), ∀ a, (k0_off40 v208) a + S1x1x128.size a ≤ S32768x1x128.size a := fun v208 k0_hw12 => k0_hw12

def k0_off41 (k0_t1 : Fin k0_t1_loop.trips) : Fin 3 → Nat :=
  let c0_i32_4 : BitVec 32 := 0#32
  let c1_i32_5 : BitVec 32 := 1#32
  let arg6 : BitVec 32 := Scf.iv c0_i32_4 c1_i32_5 k0_t1
  let c20_i32 : BitVec 32 := 20#32
  let v18 : BitVec 32 := Scalar.muli arg6 c20_i32
  let c10_i32_89 : BitVec 32 := 10#32
  let v201 : BitVec 32 := Scalar.addi v18 c10_i32_89
  let c1_i32_90 : BitVec 32 := 1#32
  let v202 : BitVec 32 := Scalar.addi v201 c1_i32_90
  let v219 : Index := Scalar.indexCast v202
  let c0_97 : Index := 0#32
  let c0_98 : Index := 0#32
  ![v219.toNat, 0, 0]
def k0_off42 (v205 : BitVec 32) : Fin 3 → Nat :=
  let v227 : Index := Scalar.indexCast v205
  let c0_100 : Index := 0#32
  let c0_101 : Index := 0#32
  ![v227.toNat, 0, 0]

def k0_chk11 (v205 : BitVec 32) : Prop :=
  (∀ a, (k0_off38 v205) a + S1x1x128.size a ≤ S32768x1x128.size a) ∧
  (∀ a, (k0_off42 v205) a + S1x1x128.size a ≤ S32768x1x128.size a)
theorem k0_off38_inb : ∀ (v205 : BitVec 32) (k0_hw11 : k0_chk11 v205), ∀ a, (k0_off38 v205) a + S1x1x128.size a ≤ S32768x1x128.size a := fun v205 k0_hw11 => k0_hw11.1
theorem k0_off42_inb : ∀ (v205 : BitVec 32) (k0_hw11 : k0_chk11 v205), ∀ a, (k0_off42 v205) a + S1x1x128.size a ≤ S32768x1x128.size a := fun v205 k0_hw11 => k0_hw11.2

def k0_off43 (i : grid0.Coords) (k0_t1 : Fin k0_t1_loop.trips) (c0_i32_104 : BitVec 32) : Fin 2 → Nat :=
  let arg0 : BitVec 32 := BitVec.ofNat 32 (i 0).val
  let c2_i32 : BitVec 32 := 2#32
  let v0 : BitVec 32 := Scalar.remsi arg0 c2_i32
  let v239 : Index := Scalar.indexCast v0
  let c0_i32_4 : BitVec 32 := 0#32
  let c1_i32_5 : BitVec 32 := 1#32
  let arg6 : BitVec 32 := Scf.iv c0_i32_4 c1_i32_5 k0_t1
  let c20_i32 : BitVec 32 := 20#32
  let v18 : BitVec 32 := Scalar.muli arg6 c20_i32
  let c12_i32 : BitVec 32 := 12#32
  let v235 : BitVec 32 := Scalar.addi v18 c12_i32
  let v236 : BitVec 32 := Scalar.addi v235 c0_i32_104
  let v240 : Index := Scalar.indexCast v236
  ![v239.toNat, v240.toNat]
def k0_off44 (v241 : BitVec 32) : Fin 3 → Nat :=
  let v245 : Index := Scalar.indexCast v241
  let c0_107 : Index := 0#32
  let c0_108 : Index := 0#32
  ![v245.toNat, 0, 0]

def k0_off45 (k0_t1 : Fin k0_t1_loop.trips) : Fin 3 → Nat :=
  let c0_i32_4 : BitVec 32 := 0#32
  let c1_i32_5 : BitVec 32 := 1#32
  let arg6 : BitVec 32 := Scf.iv c0_i32_4 c1_i32_5 k0_t1
  let c20_i32 : BitVec 32 := 20#32
  let v18 : BitVec 32 := Scalar.muli arg6 c20_i32
  let c12_i32 : BitVec 32 := 12#32
  let v235 : BitVec 32 := Scalar.addi v18 c12_i32
  let c0_i32_104 : BitVec 32 := 0#32
  let v236 : BitVec 32 := Scalar.addi v235 c0_i32_104
  let v248 : Index := Scalar.indexCast v236
  let c0_109 : Index := 0#32
  let c0_110 : Index := 0#32
  ![v248.toNat, 0, 0]
def k0_off46 (v244 : BitVec 32) : Fin 3 → Nat :=
  let v252 : Index := Scalar.indexCast v244
  let c0_111 : Index := 0#32
  let c0_112 : Index := 0#32
  ![v252.toNat, 0, 0]

def k0_chk14 (v244 : BitVec 32) : Prop :=
  (∀ a, (k0_off46 v244) a + S1x1x128.size a ≤ S32768x1x128.size a)
theorem k0_off46_inb : ∀ (v244 : BitVec 32) (k0_hw14 : k0_chk14 v244), ∀ a, (k0_off46 v244) a + S1x1x128.size a ≤ S32768x1x128.size a := fun v244 k0_hw14 => k0_hw14

def k0_off47 (k0_t1 : Fin k0_t1_loop.trips) : Fin 3 → Nat :=
  let c0_i32_4 : BitVec 32 := 0#32
  let c1_i32_5 : BitVec 32 := 1#32
  let arg6 : BitVec 32 := Scf.iv c0_i32_4 c1_i32_5 k0_t1
  let c20_i32 : BitVec 32 := 20#32
  let v18 : BitVec 32 := Scalar.muli arg6 c20_i32
  let c12_i32_105 : BitVec 32 := 12#32
  let v237 : BitVec 32 := Scalar.addi v18 c12_i32_105
  let c1_i32_106 : BitVec 32 := 1#32
  let v238 : BitVec 32 := Scalar.addi v237 c1_i32_106
  let v255 : Index := Scalar.indexCast v238
  let c0_113 : Index := 0#32
  let c0_114 : Index := 0#32
  ![v255.toNat, 0, 0]
def k0_off48 (v241 : BitVec 32) : Fin 3 → Nat :=
  let v263 : Index := Scalar.indexCast v241
  let c0_116 : Index := 0#32
  let c0_117 : Index := 0#32
  ![v263.toNat, 0, 0]

def k0_chk13 (v241 : BitVec 32) : Prop :=
  (∀ a, (k0_off44 v241) a + S1x1x128.size a ≤ S32768x1x128.size a) ∧
  (∀ a, (k0_off48 v241) a + S1x1x128.size a ≤ S32768x1x128.size a)
theorem k0_off44_inb : ∀ (v241 : BitVec 32) (k0_hw13 : k0_chk13 v241), ∀ a, (k0_off44 v241) a + S1x1x128.size a ≤ S32768x1x128.size a := fun v241 k0_hw13 => k0_hw13.1
theorem k0_off48_inb : ∀ (v241 : BitVec 32) (k0_hw13 : k0_chk13 v241), ∀ a, (k0_off48 v241) a + S1x1x128.size a ≤ S32768x1x128.size a := fun v241 k0_hw13 => k0_hw13.2

def k0_off49 (i : grid0.Coords) (k0_t1 : Fin k0_t1_loop.trips) (c0_i32_120 : BitVec 32) : Fin 2 → Nat :=
  let arg0 : BitVec 32 := BitVec.ofNat 32 (i 0).val
  let c2_i32 : BitVec 32 := 2#32
  let v0 : BitVec 32 := Scalar.remsi arg0 c2_i32
  let v275 : Index := Scalar.indexCast v0
  let c0_i32_4 : BitVec 32 := 0#32
  let c1_i32_5 : BitVec 32 := 1#32
  let arg6 : BitVec 32 := Scf.iv c0_i32_4 c1_i32_5 k0_t1
  let c20_i32 : BitVec 32 := 20#32
  let v18 : BitVec 32 := Scalar.muli arg6 c20_i32
  let c14_i32 : BitVec 32 := 14#32
  let v271 : BitVec 32 := Scalar.addi v18 c14_i32
  let v272 : BitVec 32 := Scalar.addi v271 c0_i32_120
  let v276 : Index := Scalar.indexCast v272
  ![v275.toNat, v276.toNat]
def k0_off50 (v277 : BitVec 32) : Fin 3 → Nat :=
  let v281 : Index := Scalar.indexCast v277
  let c0_123 : Index := 0#32
  let c0_124 : Index := 0#32
  ![v281.toNat, 0, 0]

def k0_off51 (k0_t1 : Fin k0_t1_loop.trips) : Fin 3 → Nat :=
  let c0_i32_4 : BitVec 32 := 0#32
  let c1_i32_5 : BitVec 32 := 1#32
  let arg6 : BitVec 32 := Scf.iv c0_i32_4 c1_i32_5 k0_t1
  let c20_i32 : BitVec 32 := 20#32
  let v18 : BitVec 32 := Scalar.muli arg6 c20_i32
  let c14_i32 : BitVec 32 := 14#32
  let v271 : BitVec 32 := Scalar.addi v18 c14_i32
  let c0_i32_120 : BitVec 32 := 0#32
  let v272 : BitVec 32 := Scalar.addi v271 c0_i32_120
  let v284 : Index := Scalar.indexCast v272
  let c0_125 : Index := 0#32
  let c0_126 : Index := 0#32
  ![v284.toNat, 0, 0]
def k0_off52 (v280 : BitVec 32) : Fin 3 → Nat :=
  let v288 : Index := Scalar.indexCast v280
  let c0_127 : Index := 0#32
  let c0_128 : Index := 0#32
  ![v288.toNat, 0, 0]

def k0_chk16 (v280 : BitVec 32) : Prop :=
  (∀ a, (k0_off52 v280) a + S1x1x128.size a ≤ S32768x1x128.size a)
theorem k0_off52_inb : ∀ (v280 : BitVec 32) (k0_hw16 : k0_chk16 v280), ∀ a, (k0_off52 v280) a + S1x1x128.size a ≤ S32768x1x128.size a := fun v280 k0_hw16 => k0_hw16

def k0_off53 (k0_t1 : Fin k0_t1_loop.trips) : Fin 3 → Nat :=
  let c0_i32_4 : BitVec 32 := 0#32
  let c1_i32_5 : BitVec 32 := 1#32
  let arg6 : BitVec 32 := Scf.iv c0_i32_4 c1_i32_5 k0_t1
  let c20_i32 : BitVec 32 := 20#32
  let v18 : BitVec 32 := Scalar.muli arg6 c20_i32
  let c14_i32_121 : BitVec 32 := 14#32
  let v273 : BitVec 32 := Scalar.addi v18 c14_i32_121
  let c1_i32_122 : BitVec 32 := 1#32
  let v274 : BitVec 32 := Scalar.addi v273 c1_i32_122
  let v291 : Index := Scalar.indexCast v274
  let c0_129 : Index := 0#32
  let c0_130 : Index := 0#32
  ![v291.toNat, 0, 0]
def k0_off54 (v277 : BitVec 32) : Fin 3 → Nat :=
  let v299 : Index := Scalar.indexCast v277
  let c0_132 : Index := 0#32
  let c0_133 : Index := 0#32
  ![v299.toNat, 0, 0]

def k0_chk15 (v277 : BitVec 32) : Prop :=
  (∀ a, (k0_off50 v277) a + S1x1x128.size a ≤ S32768x1x128.size a) ∧
  (∀ a, (k0_off54 v277) a + S1x1x128.size a ≤ S32768x1x128.size a)
theorem k0_off50_inb : ∀ (v277 : BitVec 32) (k0_hw15 : k0_chk15 v277), ∀ a, (k0_off50 v277) a + S1x1x128.size a ≤ S32768x1x128.size a := fun v277 k0_hw15 => k0_hw15.1
theorem k0_off54_inb : ∀ (v277 : BitVec 32) (k0_hw15 : k0_chk15 v277), ∀ a, (k0_off54 v277) a + S1x1x128.size a ≤ S32768x1x128.size a := fun v277 k0_hw15 => k0_hw15.2

def k0_off55 (i : grid0.Coords) (k0_t1 : Fin k0_t1_loop.trips) (c0_i32_136 : BitVec 32) : Fin 2 → Nat :=
  let arg0 : BitVec 32 := BitVec.ofNat 32 (i 0).val
  let c2_i32 : BitVec 32 := 2#32
  let v0 : BitVec 32 := Scalar.remsi arg0 c2_i32
  let v311 : Index := Scalar.indexCast v0
  let c0_i32_4 : BitVec 32 := 0#32
  let c1_i32_5 : BitVec 32 := 1#32
  let arg6 : BitVec 32 := Scf.iv c0_i32_4 c1_i32_5 k0_t1
  let c20_i32 : BitVec 32 := 20#32
  let v18 : BitVec 32 := Scalar.muli arg6 c20_i32
  let c16_i32 : BitVec 32 := 16#32
  let v307 : BitVec 32 := Scalar.addi v18 c16_i32
  let v308 : BitVec 32 := Scalar.addi v307 c0_i32_136
  let v312 : Index := Scalar.indexCast v308
  ![v311.toNat, v312.toNat]
def k0_off56 (v313 : BitVec 32) : Fin 3 → Nat :=
  let v317 : Index := Scalar.indexCast v313
  let c0_139 : Index := 0#32
  let c0_140 : Index := 0#32
  ![v317.toNat, 0, 0]

def k0_off57 (k0_t1 : Fin k0_t1_loop.trips) : Fin 3 → Nat :=
  let c0_i32_4 : BitVec 32 := 0#32
  let c1_i32_5 : BitVec 32 := 1#32
  let arg6 : BitVec 32 := Scf.iv c0_i32_4 c1_i32_5 k0_t1
  let c20_i32 : BitVec 32 := 20#32
  let v18 : BitVec 32 := Scalar.muli arg6 c20_i32
  let c16_i32 : BitVec 32 := 16#32
  let v307 : BitVec 32 := Scalar.addi v18 c16_i32
  let c0_i32_136 : BitVec 32 := 0#32
  let v308 : BitVec 32 := Scalar.addi v307 c0_i32_136
  let v320 : Index := Scalar.indexCast v308
  let c0_141 : Index := 0#32
  let c0_142 : Index := 0#32
  ![v320.toNat, 0, 0]
def k0_off58 (v316 : BitVec 32) : Fin 3 → Nat :=
  let v324 : Index := Scalar.indexCast v316
  let c0_143 : Index := 0#32
  let c0_144 : Index := 0#32
  ![v324.toNat, 0, 0]

def k0_chk18 (v316 : BitVec 32) : Prop :=
  (∀ a, (k0_off58 v316) a + S1x1x128.size a ≤ S32768x1x128.size a)
theorem k0_off58_inb : ∀ (v316 : BitVec 32) (k0_hw18 : k0_chk18 v316), ∀ a, (k0_off58 v316) a + S1x1x128.size a ≤ S32768x1x128.size a := fun v316 k0_hw18 => k0_hw18

def k0_off59 (k0_t1 : Fin k0_t1_loop.trips) : Fin 3 → Nat :=
  let c0_i32_4 : BitVec 32 := 0#32
  let c1_i32_5 : BitVec 32 := 1#32
  let arg6 : BitVec 32 := Scf.iv c0_i32_4 c1_i32_5 k0_t1
  let c20_i32 : BitVec 32 := 20#32
  let v18 : BitVec 32 := Scalar.muli arg6 c20_i32
  let c16_i32_137 : BitVec 32 := 16#32
  let v309 : BitVec 32 := Scalar.addi v18 c16_i32_137
  let c1_i32_138 : BitVec 32 := 1#32
  let v310 : BitVec 32 := Scalar.addi v309 c1_i32_138
  let v327 : Index := Scalar.indexCast v310
  let c0_145 : Index := 0#32
  let c0_146 : Index := 0#32
  ![v327.toNat, 0, 0]
def k0_off60 (v313 : BitVec 32) : Fin 3 → Nat :=
  let v335 : Index := Scalar.indexCast v313
  let c0_148 : Index := 0#32
  let c0_149 : Index := 0#32
  ![v335.toNat, 0, 0]

def k0_chk17 (v313 : BitVec 32) : Prop :=
  (∀ a, (k0_off56 v313) a + S1x1x128.size a ≤ S32768x1x128.size a) ∧
  (∀ a, (k0_off60 v313) a + S1x1x128.size a ≤ S32768x1x128.size a)
theorem k0_off56_inb : ∀ (v313 : BitVec 32) (k0_hw17 : k0_chk17 v313), ∀ a, (k0_off56 v313) a + S1x1x128.size a ≤ S32768x1x128.size a := fun v313 k0_hw17 => k0_hw17.1
theorem k0_off60_inb : ∀ (v313 : BitVec 32) (k0_hw17 : k0_chk17 v313), ∀ a, (k0_off60 v313) a + S1x1x128.size a ≤ S32768x1x128.size a := fun v313 k0_hw17 => k0_hw17.2

def k0_off61 (i : grid0.Coords) (k0_t1 : Fin k0_t1_loop.trips) (c0_i32_152 : BitVec 32) : Fin 2 → Nat :=
  let arg0 : BitVec 32 := BitVec.ofNat 32 (i 0).val
  let c2_i32 : BitVec 32 := 2#32
  let v0 : BitVec 32 := Scalar.remsi arg0 c2_i32
  let v347 : Index := Scalar.indexCast v0
  let c0_i32_4 : BitVec 32 := 0#32
  let c1_i32_5 : BitVec 32 := 1#32
  let arg6 : BitVec 32 := Scf.iv c0_i32_4 c1_i32_5 k0_t1
  let c20_i32 : BitVec 32 := 20#32
  let v18 : BitVec 32 := Scalar.muli arg6 c20_i32
  let c18_i32 : BitVec 32 := 18#32
  let v343 : BitVec 32 := Scalar.addi v18 c18_i32
  let v344 : BitVec 32 := Scalar.addi v343 c0_i32_152
  let v348 : Index := Scalar.indexCast v344
  ![v347.toNat, v348.toNat]
def k0_off62 (v349 : BitVec 32) : Fin 3 → Nat :=
  let v353 : Index := Scalar.indexCast v349
  let c0_155 : Index := 0#32
  let c0_156 : Index := 0#32
  ![v353.toNat, 0, 0]

def k0_off63 (k0_t1 : Fin k0_t1_loop.trips) : Fin 3 → Nat :=
  let c0_i32_4 : BitVec 32 := 0#32
  let c1_i32_5 : BitVec 32 := 1#32
  let arg6 : BitVec 32 := Scf.iv c0_i32_4 c1_i32_5 k0_t1
  let c20_i32 : BitVec 32 := 20#32
  let v18 : BitVec 32 := Scalar.muli arg6 c20_i32
  let c18_i32 : BitVec 32 := 18#32
  let v343 : BitVec 32 := Scalar.addi v18 c18_i32
  let c0_i32_152 : BitVec 32 := 0#32
  let v344 : BitVec 32 := Scalar.addi v343 c0_i32_152
  let v356 : Index := Scalar.indexCast v344
  let c0_157 : Index := 0#32
  let c0_158 : Index := 0#32
  ![v356.toNat, 0, 0]
def k0_off64 (v352 : BitVec 32) : Fin 3 → Nat :=
  let v360 : Index := Scalar.indexCast v352
  let c0_159 : Index := 0#32
  let c0_160 : Index := 0#32
  ![v360.toNat, 0, 0]

def k0_chk20 (v352 : BitVec 32) : Prop :=
  (∀ a, (k0_off64 v352) a + S1x1x128.size a ≤ S32768x1x128.size a)
theorem k0_off64_inb : ∀ (v352 : BitVec 32) (k0_hw20 : k0_chk20 v352), ∀ a, (k0_off64 v352) a + S1x1x128.size a ≤ S32768x1x128.size a := fun v352 k0_hw20 => k0_hw20

def k0_off65 (k0_t1 : Fin k0_t1_loop.trips) : Fin 3 → Nat :=
  let c0_i32_4 : BitVec 32 := 0#32
  let c1_i32_5 : BitVec 32 := 1#32
  let arg6 : BitVec 32 := Scf.iv c0_i32_4 c1_i32_5 k0_t1
  let c20_i32 : BitVec 32 := 20#32
  let v18 : BitVec 32 := Scalar.muli arg6 c20_i32
  let c18_i32_153 : BitVec 32 := 18#32
  let v345 : BitVec 32 := Scalar.addi v18 c18_i32_153
  let c1_i32_154 : BitVec 32 := 1#32
  let v346 : BitVec 32 := Scalar.addi v345 c1_i32_154
  let v363 : Index := Scalar.indexCast v346
  let c0_161 : Index := 0#32
  let c0_162 : Index := 0#32
  ![v363.toNat, 0, 0]
def k0_off66 (v349 : BitVec 32) : Fin 3 → Nat :=
  let v371 : Index := Scalar.indexCast v349
  let c0_164 : Index := 0#32
  let c0_165 : Index := 0#32
  ![v371.toNat, 0, 0]

def k0_chk19 (v349 : BitVec 32) : Prop :=
  (∀ a, (k0_off62 v349) a + S1x1x128.size a ≤ S32768x1x128.size a) ∧
  (∀ a, (k0_off66 v349) a + S1x1x128.size a ≤ S32768x1x128.size a)
theorem k0_off62_inb : ∀ (v349 : BitVec 32) (k0_hw19 : k0_chk19 v349), ∀ a, (k0_off62 v349) a + S1x1x128.size a ≤ S32768x1x128.size a := fun v349 k0_hw19 => k0_hw19.1
theorem k0_off66_inb : ∀ (v349 : BitVec 32) (k0_hw19 : k0_chk19 v349), ∀ a, (k0_off66 v349) a + S1x1x128.size a ≤ S32768x1x128.size a := fun v349 k0_hw19 => k0_hw19.2

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S10000x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32768x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S1000000x128 : Shape := ⟨2, ![1000000, 128]⟩
abbrev S1000000x3 : Shape := ⟨2, ![1000000, 3]⟩
abbrev S_ : Shape := ⟨0, ![]⟩
abbrev S1000000x1 : Shape := ⟨2, ![1000000, 1]⟩
abbrev S1000000 : Shape := ⟨1, ![1000000]⟩
abbrev S32768 : Shape := ⟨1, ![32768]⟩
abbrev S1x1000000 : Shape := ⟨2, ![1, 1000000]⟩
abbrev S32768x1 : Shape := ⟨2, ![32768, 1]⟩
abbrev S32768x1000000 : Shape := ⟨2, ![32768, 1000000]⟩
abbrev S32768x1000000x1 : Shape := ⟨3, ![32768, 1000000, 1]⟩
abbrev S1x1000000x128 : Shape := ⟨3, ![1, 1000000, 128]⟩
abbrev S32768x1000000x128 : Shape := ⟨3, ![32768, 1000000, 128]⟩
abbrev S32768x128 : Shape := ⟨2, ![32768, 128]⟩

abbrev nBuf : Space → Nat
  | .hbm => 64
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000x3, .i32⟩
  | .hbm, ⟨2, _⟩ => ⟨S_, .i32⟩
  | .hbm, ⟨3, _⟩ => ⟨S_, .i32⟩
  | .hbm, ⟨4, _⟩ => ⟨S1000000x3, .i32⟩
  | .hbm, ⟨5, _⟩ => ⟨S1000000x3, .i32⟩
  | .hbm, ⟨6, _⟩ => ⟨S1000000x3, .i32⟩
  | .hbm, ⟨7, _⟩ => ⟨S_, .i32⟩
  | .hbm, ⟨8, _⟩ => ⟨S1000000x3, .i32⟩
  | .hbm, ⟨9, _⟩ => ⟨S1000000x3, .i1⟩
  | .hbm, ⟨10, _⟩ => ⟨S1000000x3, .i32⟩
  | .hbm, ⟨11, _⟩ => ⟨S1000000x3, .i32⟩
  | .hbm, ⟨12, _⟩ => ⟨S_, .i32⟩
  | .hbm, ⟨13, _⟩ => ⟨S1000000x3, .i32⟩
  | .hbm, ⟨14, _⟩ => ⟨S1000000x3, .i1⟩
  | .hbm, ⟨15, _⟩ => ⟨S1000000x3, .i1⟩
  | .hbm, ⟨16, _⟩ => ⟨S_, .i32⟩
  | .hbm, ⟨17, _⟩ => ⟨S1000000x3, .i32⟩
  | .hbm, ⟨18, _⟩ => ⟨S1000000x3, .i32⟩
  | .hbm, ⟨19, _⟩ => ⟨S1000000x3, .i32⟩
  | .hbm, ⟨20, _⟩ => ⟨S1000000x1, .i32⟩
  | .hbm, ⟨21, _⟩ => ⟨S1000000, .i32⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1000000, .i32⟩
  | .hbm, ⟨27, _⟩ => ⟨S1000000, .i32⟩
  | .hbm, ⟨28, _⟩ => ⟨S_, .i32⟩
  | .hbm, ⟨29, _⟩ => ⟨S1000000, .i32⟩
  | .hbm, ⟨30, _⟩ => ⟨S1000000, .i32⟩
  | .hbm, ⟨31, _⟩ => ⟨S1000000x1, .i32⟩
  | .hbm, ⟨32, _⟩ => ⟨S1000000, .i32⟩
  | .hbm, ⟨33, _⟩ => ⟨S1000000, .i32⟩
  | .hbm, ⟨34, _⟩ => ⟨S_, .f32⟩
  | .hbm, ⟨35, _⟩ => ⟨S1000000, .f32⟩
  | .hbm, ⟨36, _⟩ => ⟨S_, .f32⟩
  | .hbm, ⟨37, _⟩ => ⟨S32768, .f32⟩
  | .hbm, ⟨38, _⟩ => ⟨S1000000x1, .i32⟩
  | .hbm, ⟨39, _⟩ => ⟨S32768, .f32⟩
  | .hbm, ⟨40, _⟩ => ⟨S1x1000000, .i32⟩
  | .hbm, ⟨41, _⟩ => ⟨S32768, .i32⟩
  | .hbm, ⟨42, _⟩ => ⟨S32768x1, .i32⟩
  | .hbm, ⟨43, _⟩ => ⟨S32768x1000000, .i32⟩
  | .hbm, ⟨44, _⟩ => ⟨S32768x1000000, .i32⟩
  | .hbm, ⟨45, _⟩ => ⟨S32768x1000000, .i1⟩
  | .hbm, ⟨46, _⟩ => ⟨S32768x1000000x1, .i1⟩
  | .hbm, ⟨47, _⟩ => ⟨S1x1000000x128, .f32⟩
  | .hbm, ⟨48, _⟩ => ⟨S_, .f32⟩
  | .hbm, ⟨49, _⟩ => ⟨S_, .f32⟩
  | .hbm, ⟨50, _⟩ => ⟨S32768x1000000x128, .i1⟩
  | .hbm, ⟨51, _⟩ => ⟨S32768x1000000x128, .f32⟩
  | .hbm, ⟨52, _⟩ => ⟨S32768x1000000x128, .f32⟩
  | .hbm, ⟨53, _⟩ => ⟨S32768x1000000x128, .f32⟩
  | .hbm, ⟨54, _⟩ => ⟨S_, .f32⟩
  | .hbm, ⟨55, _⟩ => ⟨S32768x128, .f32⟩
  | .hbm, ⟨56, _⟩ => ⟨S32768x1, .f32⟩
  | .hbm, ⟨57, _⟩ => ⟨S_, .f32⟩
  | .hbm, ⟨58, _⟩ => ⟨S32768x1, .f32⟩
  | .hbm, ⟨59, _⟩ => ⟨S32768x1, .i1⟩
  | .hbm, ⟨60, _⟩ => ⟨S_, .f32⟩
  | .hbm, ⟨61, _⟩ => ⟨S32768x128, .i1⟩
  | .hbm, ⟨62, _⟩ => ⟨S32768x128, .f32⟩
  | .hbm, ⟨63, _⟩ => ⟨S32768x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_c : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_c_0 : Ref sig .tc := ⟨.hbm, 16, rfl⟩
abbrev main_call0_v12 : Ref sig .tc := ⟨.hbm, 17, rfl⟩
abbrev main_call0_v13 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_c_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst : Ref sig .tc := ⟨.hbm, 34, rfl⟩
abbrev main_v13 : Ref sig .tc := ⟨.hbm, 35, rfl⟩
abbrev main_cst_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_3 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_v25 : Ref sig .tc := ⟨.hbm, 53, rfl⟩
abbrev main_cst_4 : Ref sig .tc := ⟨.hbm, 54, rfl⟩
abbrev main_v26 : Ref sig .tc := ⟨.hbm, 55, rfl⟩
abbrev main_v27 : Ref sig .tc := ⟨.hbm, 56, rfl⟩
abbrev main_cst_5 : Ref sig .tc := ⟨.hbm, 57, rfl⟩
abbrev main_v28 : Ref sig .tc := ⟨.hbm, 58, rfl⟩
abbrev main_v29 : Ref sig .tc := ⟨.hbm, 59, rfl⟩
abbrev main_cst_6 : Ref sig .tc := ⟨.hbm, 60, rfl⟩
abbrev main_call2_v0 : Ref sig .tc := ⟨.hbm, 61, rfl⟩
abbrev main_call2_v1 : Ref sig .tc := ⟨.hbm, 62, rfl⟩
abbrev main_v30 : Ref sig .tc := ⟨.hbm, 63, rfl⟩

abbrev nD : Nat := 1
abbrev τ : Topo := Topo.v7x

variable {F : FTy → Type} [FloatOps F]
-- ==== Proof.Steps.lean ====
/- One step of a body that holds three buffers: a block it reads, an accumulator it reads and writes by rows, and a
   stretch of scalar memory it reads words of. Each lemma takes the state before the step to the state after it, the
   contents tracked by values. -/
module

public import Idealize.ShloMosaic.Lib.VecWindow
public import Idealize.ShloMosaic.Lib.Exec
public import Idealize.ShloMosaic.Lib.Writes
public import Idealize.ShloMosaic.Lib.Memref

@[expose] public section

noncomputable section

namespace Pool

open Idealize.ShloMosaic
open Idealize.SL
open Idealize.SL.BI (sProp)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {Val : EltTy → Type} {Name : Type} [DecidableEq Name]
variable {U : Type} [URA U]
variable {Lvl : Type} {Λ : Labels} [Preorder Lvl] {defs : Defs nD τ sig Val Λ}

local notation "𝕄" => MT nD τ sig Ix Val Name U Lvl

/-- The three buffers of the loop: the block `x`, the accumulator `d`, and elements `S` of scalar memory at `g`. -/
def St (c : Thread nD τ) {s₂ s₃ s₄ : Shape} {e₂ e₃ e₄ : EltTy} (a₂ : Memref sig c.2.kind .vmem s₂ e₂) (a₃ : Memref sig c.2.kind .vmem s₃ e₃)
    (a₄ : Memref sig c.2.kind .smem s₄ e₄) (S : Finset (Idx (a₄.view.loc c))) (g : Buf Val (a₄.view.loc c))
    (x : s₂.Idx → Val e₂) (d : s₃.Idx → Val e₃) : sProp 𝕄 :=
  iprop(owns c a₂ fullShare x ∗ owns c a₃ fullShare d ∗ (a₄.view.loc c ↦[S]{fullShare} g))

section

variable (𝒱 : Variants) (c : Thread nD τ) (bd : Option 𝒱.V) (E : Set Name)
variable {s₂ s₃ s₄ : Shape} {e₂ e₃ e₄ : EltTy} {a₂ : Memref sig c.2.kind .vmem s₂ e₂} {a₃ : Memref sig c.2.kind .vmem s₃ e₃}
    {a₄ : Memref sig c.2.kind .smem s₄ e₄} {S : Finset (Idx (a₄.view.loc c))} {g : Buf Val (a₄.view.loc c)}
    {x : s₂.Idx → Val e₂} {d : s₃.Idx → Val e₃} {α : Type} {Q : α → sProp (MT nD τ sig Ix Val Name U Lvl)}

/-- A load of a window of the block. -/
theorem St.load₂ {off off' size : Fin s₂.rank → ℕ} {inb : ∀ a, off a + size a ≤ s₂.size a} {hl : a₂.view.LoadsAt (Rect.unit off size inb).toLoadRect}
    {k : ((Rect.unit off size inb).shape.Idx → Val e₂) → Prog (TpuEff nD τ sig Val Λ c.2) α} (h : off = off') (inb' : ∀ a, off' a + size a ≤ s₂.size a)
    (H : (St c a₂ a₃ a₄ S g x d : sProp 𝕄) ⊢ wp frame (wpE defs 𝒱 c bd) E (k (VecWindow.window x off' size inb')) Q) :
    (St c a₂ a₃ a₄ S g x d : sProp 𝕄) ⊢ wp frame (wpE defs 𝒱 c bd) E (Prog.lift (.load a₂ (Rect.unit off size inb).toLoadRect hl) >>= k) Q := by
  refine Entails.trans ?_ (show wp frame (wpE defs 𝒱 c bd) E (.op (.load a₂ (Rect.unit off size inb).toLoadRect hl) k) Q ⊢ _ from .rfl)
  refine Entails.trans (show (St c a₂ a₃ a₄ S g x d : sProp 𝕄) ⊢ _ from ?_) .rfl
  unfold St owns at *
  iintro ⟨⟨%f, %hf, H2⟩, H3, H4⟩
  iapply (wp_load 𝒱 c bd E (a₂.view.setOn_subset_set _)) $$ [H2]
  · iexact H2
  iintro H2
  rw [View.readAt_unit a₂.view f inb h inb', hf]
  iapply H
  isplitl [H2]
  · iexists f; isplitr
    · ipureintro; exact hf
    iexact H2
  isplitl [H3] <;> iassumption

/-- A load of a window of the accumulator. -/
theorem St.load₃ {off off' size : Fin s₃.rank → ℕ} {inb : ∀ a, off a + size a ≤ s₃.size a} {hl : a₃.view.LoadsAt (Rect.unit off size inb).toLoadRect}
    {k : ((Rect.unit off size inb).shape.Idx → Val e₃) → Prog (TpuEff nD τ sig Val Λ c.2) α} (h : off = off') (inb' : ∀ a, off' a + size a ≤ s₃.size a)
    (H : (St c a₂ a₃ a₄ S g x d : sProp 𝕄) ⊢ wp frame (wpE defs 𝒱 c bd) E (k (VecWindow.window d off' size inb')) Q) :
    (St c a₂ a₃ a₄ S g x d : sProp 𝕄) ⊢ wp frame (wpE defs 𝒱 c bd) E (Prog.lift (.load a₃ (Rect.unit off size inb).toLoadRect hl) >>= k) Q := by
  refine Entails.trans ?_ (show wp frame (wpE defs 𝒱 c bd) E (.op (.load a₃ (Rect.unit off size inb).toLoadRect hl) k) Q ⊢ _ from .rfl)
  unfold St owns at *
  iintro ⟨H2, ⟨%f, %hf, H3⟩, H4⟩
  iapply (wp_load 𝒱 c bd E (a₃.view.setOn_subset_set _)) $$ [H3]
  · iexact H3
  iintro H3
  rw [View.readAt_unit a₃.view f inb h inb', hf]
  iapply H
  isplitl [H2]
  · iexact H2
  isplitl [H3]
  · iexists f; isplitr
    · ipureintro; exact hf
    iexact H3
  iassumption

/-- An unmasked store to a window of the accumulator. -/
theorem St.store₃ {off off' size : Fin s₃.rank → ℕ} {inb : ∀ a, off a + size a ≤ s₃.size a} {w : (Rect.unit off size inb).shape.Idx → Val e₃}
    {hx : (a₃.access (Rect.unit off size inb)).Stores Finset.univ} {hm : Finset.univ = Finset.univ ∨ ∀ a, (Rect.unit off size inb).stride a = 1}
    {k : PUnit → Prog (TpuEff nD τ sig Val Λ c.2) α} (h : off = off')
    (H : (St c a₂ a₃ a₄ S g x (VecWindow.put d off' size w) : sProp 𝕄) ⊢ wp frame (wpE defs 𝒱 c bd) E (k ⟨⟩) Q) :
    (St c a₂ a₃ a₄ S g x d : sProp 𝕄) ⊢ wp frame (wpE defs 𝒱 c bd) E (Prog.lift (.store a₃ (Rect.unit off size inb) w Finset.univ hx hm) >>= k) Q := by
  refine Entails.trans ?_ (show wp frame (wpE defs 𝒱 c bd) E (.op (.store a₃ (Rect.unit off size inb) w Finset.univ hx hm) k) Q ⊢ _ from .rfl)
  unfold St owns at *
  iintro ⟨H2, ⟨%f, %hf, H3⟩, H4⟩
  iapply (wp_store_writes₀ 𝒱 c bd E (View.set_slice_subset _ _)) $$ [H3]
  · iexact H3
  iintro H3
  iapply H
  isplitl [H2]
  · iexact H2
  isplitl [H3]
  · iexists _; isplitr
    · ipureintro
      show a₃.view.read Val (a₃.view.writes Val f [⟨Rect.unit off size inb, w⟩]) = _
      rw [View.read_writes_cons_put a₃.view f inb w [] h, View.writes_nil, hf]
    iexact H3
  iassumption

/-- A word of scalar memory. -/
theorem St.word {r : Rect s₄} {h1 : r.shape.numel = 1} {hp : e₄.packing = 1} {k : Val e₄ → Prog (TpuEff nD τ sig Val Λ c.2) α} (w : Val e₄)
    (hS : (a₄.access r).set ⊆ S) (hw : ∀ y, (a₄.access r).read Val g y = w)
    (H : (St c a₂ a₃ a₄ S g x d : sProp 𝕄) ⊢ wp frame (wpE defs 𝒱 c bd) E (k w) Q) :
    (St c a₂ a₃ a₄ S g x d : sProp 𝕄) ⊢ wp frame (wpE defs 𝒱 c bd) E (smemLoad a₄ r h1 hp >>= k) Q := by
  refine Entails.trans ?_ (show wp frame (wpE defs 𝒱 c bd) E (smemLoadElt a₄ r (View.loads_smem_one hp h1) (Shape.Idx.first (h1.symm ▸ Nat.one_pos)) k) Q ⊢ _ from .rfl)
  unfold St at *
  iintro ⟨H2, H3, H4⟩
  iapply (wp_smemLoadElt 𝒱 c bd E hS) $$ [H4]
  · iexact H4
  iintro H4
  rw [hw]
  iapply H
  isplitl [H2]
  · iexact H2
  isplitl [H3] <;> iassumption

/-- An assumed fact that holds. -/
theorem St.assumed {P : Prop} {dec : Decidable P} {k : PLift P → Prog (TpuEff nD τ sig Val Λ c.2) α} (hP : P)
    (H : (St c a₂ a₃ a₄ S g x d : sProp 𝕄) ⊢ wp frame (wpE defs 𝒱 c bd) E (k ⟨hP⟩) Q) :
    (St c a₂ a₃ a₄ S g x d : sProp 𝕄) ⊢ wp frame (wpE defs 𝒱 c bd) E (Prog.lift (TpuEff.assume P dec) >>= k) Q :=
  H.trans (wp_assume 𝒱 c bd E hP)

end

end Pool

end
-- ==== Proof.Rows.lean ====
/- The accumulator of the pooling loop by rows, and what a pair of points, a trip of ten pairs and a tile of trips leave
   in it; with the steps of `Steps` at rows. -/
module

public import proofs.«01_k».proof.Proof.Steps

@[expose] public section

noncomputable section

namespace Pool

open Idealize.ShloMosaic
open Idealize.SL
open Idealize.SL.BI (sProp)
open scoped Idealize.SL.BI
open Idealize.SL.BI.BIBase Idealize.SL.BI.Laws Idealize.SL.Sem Idealize.SL.ProofMode
open Idealize.SL.RA

/-- The accumulator's shape: a row of 128 channels per voxel. -/
abbrev SA : Shape := ⟨3, ![32768, 1, 128]⟩
/-- A tile's shape: a row of 128 channels per point. -/
abbrev SX : Shape := ⟨3, ![10000, 1, 128]⟩
/-- One row. -/
abbrev SR : Shape := ⟨3, ![1, 1, 128]⟩
/-- The channels. -/
abbrev SC : Shape := ⟨1, ![128]⟩
/-- Two rows of voxel numbers. -/
abbrev SW : Shape := ⟨2, ![2, 10000]⟩

section Values

variable {F : FTy → Type} [FloatOps F]

/-- Row `n` of `N` rows at channel `c`. -/
def at3 {N : ℕ} [NeZero N] (n : ℕ) (c : Fin 128) : (⟨3, ![N, 1, 128]⟩ : Shape).Idx
  | ⟨0, _⟩ => Fin.ofNat N n
  | ⟨1, _⟩ => (0 : Fin 1)
  | ⟨2, _⟩ => c

/-- Row `n` of the accumulator. -/
def rowOf (d : SA.Idx → F .f32) (n : ℕ) : SR.Idx → F .f32 := fun y => d (at3 (N := 32768) n (y 2))

/-- Row `n` of a tile. -/
def pointOf (x : SX.Idx → F .f32) (n : ℕ) : SR.Idx → F .f32 := fun y => x (at3 (N := 10000) n (y 2))

/-- The accumulator with row `n` set to `w`. -/
def setRow (d : SA.Idx → F .f32) (n : ℕ) (w : SR.Idx → F .f32) : SA.Idx → F .f32 := VecWindow.put d ![n, 0, 0] SR.size w

/-- The larger of a voxel's row and a point's, over the channels alone. -/
def larger (r f : SR.Idx → F .f32) : SC.Idx → F .f32 := maximumf (shapeCast SC r) (shapeCast SC f)

/-- What the first point of a pair stores. -/
def low (r f : SR.Idx → F .f32) : SR.Idx → F .f32 := shapeCast SR (larger r f)

/-- What the second point of a pair stores: when both fall in one voxel, the first point's row takes part too. -/
def high (s₀ s₁ : BitVec 32) (r₀ f₀ r₁ f₁ : SR.Idx → F .f32) : SR.Idx → F .f32 :=
  shapeCast SR (maximumf (larger r₁ f₁) (Scalar.select (Scalar.cmpi .eq s₀ s₁) (larger r₀ f₀) (broadcast SC (Scalar.ofBits .f32 0xFF800000#32))))

/-- The pair of points `p` and `p + 1` of a tile whose voxels are the words `w`. -/
def pairUp (x : SX.Idx → F .f32) (w : ℕ → BitVec 32) (p : ℕ) (d : SA.Idx → F .f32) : SA.Idx → F .f32 :=
  setRow (setRow d (w p).toNat (low (rowOf d (w p).toNat) (pointOf x p))) (w (p + 1)).toNat
    (high (w p) (w (p + 1)) (rowOf d (w p).toNat) (pointOf x p) (rowOf d (w (p + 1)).toNat) (pointOf x (p + 1)))

/-- Ten pairs in a row from point `p`. -/
def tripUp (x : SX.Idx → F .f32) (w : ℕ → BitVec 32) (p : ℕ) (d : SA.Idx → F .f32) : SA.Idx → F .f32 :=
  pairUp x w (p + 18) (pairUp x w (p + 16) (pairUp x w (p + 14) (pairUp x w (p + 12) (pairUp x w (p + 10)
    (pairUp x w (p + 8) (pairUp x w (p + 6) (pairUp x w (p + 4) (pairUp x w (p + 2) (pairUp x w p d)))))))))

/-- The first `k` trips of a tile. -/
def tileUp (x : SX.Idx → F .f32) (w : ℕ → BitVec 32) : ℕ → (SA.Idx → F .f32) → SA.Idx → F .f32
  | 0, d => d
  | k + 1, d => tripUp x w (20 * k) (tileUp x w k d)

theorem inb_row {n : ℕ} (h : n < 32768) : ∀ a, (![n, 0, 0] : Fin 3 → ℕ) a + SR.size a ≤ SA.size a := by
  intro a; fin_cases a
  · exact h
  · exact Nat.le_refl 1
  · exact Nat.le_refl 128

theorem inb_point {n : ℕ} (h : n < 10000) : ∀ a, (![n, 0, 0] : Fin 3 → ℕ) a + SR.size a ≤ SX.size a := by
  intro a; fin_cases a
  · exact h
  · exact Nat.le_refl 1
  · exact Nat.le_refl 128

/-- A window of one row is that row. -/
theorem window_row (d : SA.Idx → F .f32) {n : ℕ} (h : n < 32768) : VecWindow.window d ![n, 0, 0] SR.size (inb_row h) = rowOf d n := by
  funext y
  refine congrArg d (funext fun a => Fin.ext ?_)
  fin_cases a
  · show n + 1 * (y 0).val = n % 32768
    have : (y 0).val < 1 := (y 0).isLt
    rw [Nat.mod_eq_of_lt h]; omega
  · show 0 + 1 * (y 1).val = 0
    have : (y 1).val < 1 := (y 1).isLt
    omega
  · show 0 + 1 * (y 2).val = (y 2).val
    omega

/-- A window of one point of a tile is that point's row. -/
theorem window_point (d : SX.Idx → F .f32) {n : ℕ} (h : n < 10000) : VecWindow.window d ![n, 0, 0] SR.size (inb_point h) = pointOf d n := by
  funext y
  refine congrArg d (funext fun a => Fin.ext ?_)
  fin_cases a
  · show n + 1 * (y 0).val = n % 10000
    have : (y 0).val < 1 := (y 0).isLt
    rw [Nat.mod_eq_of_lt h]; omega
  · show 0 + 1 * (y 1).val = 0
    have : (y 1).val < 1 := (y 1).isLt
    omega
  · show 0 + 1 * (y 2).val = (y 2).val
    omega

end Values

variable {F : FTy → Type} [FloatOps F]
variable {nD : Nat} {τ : Topo} {sig : RefSig} {Ix : Type} [DecidableEq Ix]
variable {Name : Type} [DecidableEq Name]
variable {U : Type} [URA U]
variable {Lvl : Type} {Λ : Labels} [Preorder Lvl] {defs : Defs nD τ sig (Elt F) Λ}

local notation "𝕄" => MT nD τ sig Ix (Elt F) Name U Lvl

section

variable (𝒱 : Variants) (c : Thread nD τ) (bd : Option 𝒱.V) (E : Set Name)
variable {a₂ : Memref sig c.2.kind .vmem SX .f32} {a₃ : Memref sig c.2.kind .vmem SA .f32}
    {a₄ : Memref sig c.2.kind .smem SW .i32} {S : Finset (Idx (a₄.view.loc c))} {g : Buf (Elt F) (a₄.view.loc c)}
    {x : SX.Idx → F .f32} {d : SA.Idx → F .f32} {α : Type} {Q : α → sProp (MT nD τ sig Ix (Elt F) Name U Lvl)}

/-- Row `slot` of the two in scalar memory holds the words `w`, every one a voxel's number, among the elements held. -/
structure Words (c : Thread nD τ) (a₄ : Memref sig c.2.kind .smem SW .i32) (S : Finset (Idx (a₄.view.loc c))) (g : Buf (Elt F) (a₄.view.loc c))
    (slot : ℕ) (w : ℕ → BitVec 32) : Prop where
  lt : ∀ n, n < 10000 → (w n).toNat < 32768
  sub : ∀ n (off : Fin 2 → ℕ) inb, off = ![slot, n] → n < 10000 → (a₄.access (Rect.unit (s := SW) off ![1, 1] inb)).set ⊆ S
  read : ∀ n (off : Fin 2 → ℕ) inb, off = ![slot, n] → n < 10000 → ∀ y, (a₄.access (Rect.unit (s := SW) off ![1, 1] inb)).read (Elt F) g y = w n

/-- A load of a point's row. -/
theorem St.point (n : ℕ) {off : Fin 3 → ℕ} {inb : ∀ a, off a + SR.size a ≤ SX.size a} {hl : a₂.view.LoadsAt (Rect.unit (s := SX) off SR.size inb).toLoadRect}
    {k : (SR.Idx → F .f32) → Prog (TpuEff nD τ sig (Elt F) Λ c.2) α} (hn : n < 10000) (h : off = ![n, 0, 0])
    (H : (St c a₂ a₃ a₄ S g x d : sProp 𝕄) ⊢ wp frame (wpE defs 𝒱 c bd) E (k (pointOf x n)) Q) :
    (St c a₂ a₃ a₄ S g x d : sProp 𝕄) ⊢ wp frame (wpE defs 𝒱 c bd) E (Prog.lift (.load a₂ (Rect.unit (s := SX) off SR.size inb).toLoadRect hl) >>= k) Q := by
  refine St.load₂ 𝒱 c bd E h (inb_point hn) ?_
  have e := window_point x hn
  exact e ▸ H

/-- A load of a voxel's row. -/
theorem St.row (n : ℕ) {off : Fin 3 → ℕ} {inb : ∀ a, off a + SR.size a ≤ SA.size a} {hl : a₃.view.LoadsAt (Rect.unit (s := SA) off SR.size inb).toLoadRect}
    {k : (SR.Idx → F .f32) → Prog (TpuEff nD τ sig (Elt F) Λ c.2) α} (hn : n < 32768) (h : off = ![n, 0, 0])
    (H : (St c a₂ a₃ a₄ S g x d : sProp 𝕄) ⊢ wp frame (wpE defs 𝒱 c bd) E (k (rowOf d n)) Q) :
    (St c a₂ a₃ a₄ S g x d : sProp 𝕄) ⊢ wp frame (wpE defs 𝒱 c bd) E (Prog.lift (.load a₃ (Rect.unit (s := SA) off SR.size inb).toLoadRect hl) >>= k) Q := by
  refine St.load₃ 𝒱 c bd E h (inb_row hn) ?_
  have e := window_row d hn
  exact e ▸ H

/-- A store to a voxel's row. -/
theorem St.set (n : ℕ) {off : Fin 3 → ℕ} {inb : ∀ a, off a + SR.size a ≤ SA.size a} {w : SR.Idx → F .f32}
    {hx : (a₃.access (Rect.unit (s := SA) off SR.size inb)).Stores Finset.univ} {hm : Finset.univ = Finset.univ ∨ ∀ a, (Rect.unit (s := SA) off SR.size inb).stride a = 1}
    {k : PUnit → Prog (TpuEff nD τ sig (Elt F) Λ c.2) α} (h : off = ![n, 0, 0])
    (H : (St c a₂ a₃ a₄ S g x (setRow d n w) : sProp 𝕄) ⊢ wp frame (wpE defs 𝒱 c bd) E (k ⟨⟩) Q) :
    (St c a₂ a₃ a₄ S g x d : sProp 𝕄) ⊢ wp frame (wpE defs 𝒱 c bd) E (Prog.lift (.store a₃ (Rect.unit (s := SA) off SR.size inb) w Finset.univ hx hm) >>= k) Q :=
  St.store₃ 𝒱 c bd E h H

/-- A voxel number read, and the check that its row is in the accumulator. -/
theorem St.voxel {slot : ℕ} {w : ℕ → BitVec 32} (W : Words c a₄ S g slot w) (n : ℕ) {off : Fin 2 → ℕ} {inb : ∀ a, off a + (![1, 1] : Fin 2 → ℕ) a ≤ SW.size a}
    {h1 : (Rect.unit (s := SW) off ![1, 1] inb).shape.numel = 1} {hp : EltTy.i32.packing = 1} {k : BitVec 32 → Prog (TpuEff nD τ sig (Elt F) Λ c.2) α}
    (hn : n < 10000) (h : off = ![slot, n])
    (H : (St c a₂ a₃ a₄ S g x d : sProp 𝕄) ⊢ wp frame (wpE defs 𝒱 c bd) E (k (w n)) Q) :
    (St c a₂ a₃ a₄ S g x d : sProp 𝕄) ⊢ wp frame (wpE defs 𝒱 c bd) E (smemLoad a₄ (Rect.unit (s := SW) off ![1, 1] inb) h1 hp >>= k) Q :=
  St.word 𝒱 c bd E (w n) (W.sub n off inb h hn) (W.read n off inb h hn) H

/-- The two stores of a pair, named. -/
theorem St.paired {w : ℕ → BitVec 32} (p : ℕ) {lo hi : SR.Idx → F .f32} {Q' : sProp 𝕄}
    (hlo : lo = low (rowOf d (w p).toNat) (pointOf x p))
    (hhi : hi = high (w p) (w (p + 1)) (rowOf d (w p).toNat) (pointOf x p) (rowOf d (w (p + 1)).toNat) (pointOf x (p + 1)))
    (H : (St c a₂ a₃ a₄ S g x (pairUp x w p d) : sProp 𝕄) ⊢ Q') :
    (St c a₂ a₃ a₄ S g x (setRow (setRow d (w p).toNat lo) (w (p + 1)).toNat hi) : sProp 𝕄) ⊢ Q' := by
  subst hlo; subst hhi; exact H

end

end Pool

end
-- ==== Proof.Seg.lean ====
/- The voxel number of a point from its three coordinates: as a word, as the host's array, and its range. -/
module

public import Idealize.ShloMosaic.PureOps
public import Idealize.ShloMosaic.Lib.StableHlo

@[expose] public section

noncomputable section

namespace Pool

open Idealize.ShloMosaic

/-- The points' coordinates. -/
abbrev SP3 : Shape := ⟨2, ![1000000, 3]⟩
/-- One coordinate of every point, as a column. -/
abbrev SP1 : Shape := ⟨2, ![1000000, 1]⟩
/-- The points. -/
abbrev SP : Shape := ⟨1, ![1000000]⟩
/-- One element. -/
abbrev S0 : Shape := ⟨0, ![]⟩

/-- The sign of a word. -/
def sign (a : BitVec 32) : BitVec 32 := if a = 0 then 0 else if a.msb then -1 else 1

/-- A word halved, rounded down. -/
def half (a : BitVec 32) : BitVec 32 :=
  Scalar.select (IntOp.andi (IntOp.cmpi .ne (sign a) (sign 2#32)) (IntOp.cmpi .ne (IntOp.remsi .host a 2#32) 0#32))
    (IntOp.subi (IntOp.divsi .host a 2#32) 1#32) (IntOp.divsi .host a 2#32)

/-- The number of the voxel of three coordinates. -/
def voxel (a b c : BitVec 32) : BitVec 32 :=
  IntOp.addi (IntOp.muli (IntOp.addi (IntOp.muli (half a) 32#32) (half b)) 32#32) (half c)

theorem half_lt_fin : ∀ n : Fin 64, (half (BitVec.ofNat 32 n.val)).toNat < 32 := by decide +kernel

/-- Half of a coordinate in the grid is below 32. -/
theorem half_lt {a : BitVec 32} (h : a.toNat < 64) : (half a).toNat < 32 := by
  have e : a = BitVec.ofNat 32 a.toNat := by rw [BitVec.ofNat_toNat, BitVec.setWidth_eq]
  rw [e]; exact half_lt_fin ⟨a.toNat, h⟩

/-- A point of the grid falls in one of the 32768 voxels. -/
theorem voxel_lt {a b c : BitVec 32} (ha : a.toNat < 64) (hb : b.toNat < 64) (hc : c.toNat < 64) : (voxel a b c).toNat < 32768 := by
  have h1 := half_lt ha
  have h2 := half_lt hb
  have h3 := half_lt hc
  simp only [voxel, IntOp.addi, IntOp.muli, BitVec.toNat_add, BitVec.toNat_mul, BitVec.toNat_ofNat]
  omega

/-- Coordinate `k` of point `n`. -/
def coordAt (n : Fin 1000000) (k : Fin 3) : SP3.Idx
  | ⟨0, _⟩ => n
  | ⟨1, _⟩ => k

/-- Point `n`. -/
def pt (n : Fin 1000000) : SP.Idx
  | ⟨0, _⟩ => n

/-- The voxel number of point `n`. -/
def segOf (x : SP3.Idx → BitVec 32) (n : Fin 1000000) : BitVec 32 := voxel (x (coordAt n 0)) (x (coordAt n 1)) (x (coordAt n 2))

/-- The coordinates halved, in the host's operations. -/
def halves (h2 : S0.BroadcastsInDim SP3 (![] : Fin 0 → Fin SP3.rank)) (x : SP3.Idx → BitVec 32) : IVec SP3 32 :=
  select
    (andi (cmpi .ne (signi x) (broadcastInDim SP3 ![] h2 (signi (constantI S0 32 2#32))))
      (cmpi .ne (Host.remsi x (broadcastInDim SP3 ![] h2 (constantI S0 32 2#32))) (broadcastInDim SP3 ![] h2 (constantI S0 32 0#32))))
    (subi (Host.divsi x (broadcastInDim SP3 ![] h2 (constantI S0 32 2#32))) (broadcastInDim SP3 ![] h2 (constantI S0 32 1#32)))
    (Host.divsi x (broadcastInDim SP3 ![] h2 (constantI S0 32 2#32)))

/-- The voxel numbers, in the host's operations. -/
def segArr (h2 : S0.BroadcastsInDim SP3 (![] : Fin 0 → Fin SP3.rank)) (h1 : S0.BroadcastsInDim SP (![] : Fin 0 → Fin SP.rank))
    (s0 : SP3.Slices ![0, 0] SP1) (s1 : SP3.Slices ![0, 1] SP1) (s2 : SP3.Slices ![0, 2] SP1) (hr : SP1.ShapeCasts SP)
    (x : SP3.Idx → BitVec 32) : IVec SP 32 :=
  addi (muli (addi (muli (shapeCast SP (extractStridedSlice SP1 ![0, 0] (halves h2 x) s0) hr) (broadcastInDim SP ![] h1 (constantI S0 32 32#32)))
      (shapeCast SP (extractStridedSlice SP1 ![0, 1] (halves h2 x) s1) hr)) (broadcastInDim SP ![] h1 (constantI S0 32 32#32)))
    (shapeCast SP (extractStridedSlice SP1 ![0, 2] (halves h2 x) s2) hr)

/-- Element `n` of a coordinate's column cast to a row. -/
theorem column_at {α : Type} (k : Fin 3) (off : Fin 2 → ℕ) (hoff : off = ![0, k.val]) (s : SP3.Slices off SP1) (hr : SP1.ShapeCasts SP) (y : SP3.Idx → α) (n : Fin 1000000) :
    shapeCast SP (extractStridedSlice SP1 off y s) hr (pt n) = y (coordAt n k) := by
  subst hoff
  have e : Shape.reshapeEquiv hr (pt n) = (fun a => match a with | ⟨0, _⟩ => n | ⟨1, _⟩ => (0 : Fin 1) : SP1.Idx) := by
    refine Shape.reshapeEquiv_eq_of_rowMajor _ ?_
    rw [Shape.rowMajor_val_two, Shape.rowMajor_val_one]
    show n.val * 1 + 0 = n.val
    omega
  show extractStridedSlice SP1 ![0, k.val] y s (Shape.reshapeEquiv hr (pt n)) = _
  rw [e]
  refine congrArg y (funext fun a => Fin.ext ?_)
  fin_cases a
  · show 0 + n.val = n.val
    omega
  · show k.val + 0 = k.val
    omega

/-- The host's array of voxel numbers holds each point's. -/
theorem segArr_at (h2 : S0.BroadcastsInDim SP3 (![] : Fin 0 → Fin SP3.rank)) (h1 : S0.BroadcastsInDim SP (![] : Fin 0 → Fin SP.rank))
    (s0 : SP3.Slices ![0, 0] SP1) (s1 : SP3.Slices ![0, 1] SP1) (s2 : SP3.Slices ![0, 2] SP1) (hr : SP1.ShapeCasts SP)
    (x : SP3.Idx → BitVec 32) (n : Fin 1000000) : segArr h2 h1 s0 s1 s2 hr x (pt n) = segOf x n := by
  have e0 := column_at 0 ![0, 0] rfl s0 hr (halves h2 x) n
  have e1 := column_at 1 ![0, 1] rfl s1 hr (halves h2 x) n
  have e2 := column_at 2 ![0, 2] rfl s2 hr (halves h2 x) n
  show IntOp.addi (IntOp.muli (IntOp.addi (IntOp.muli (shapeCast SP (extractStridedSlice SP1 ![0, 0] (halves h2 x) s0) hr (pt n)) 32#32)
    (shapeCast SP (extractStridedSlice SP1 ![0, 1] (halves h2 x) s1) hr (pt n))) 32#32) (shapeCast SP (extractStridedSlice SP1 ![0, 2] (halves h2 x) s2) hr (pt n)) = _
  rw [e0, e1, e2]
  rfl

/-- Every coordinate is in the grid. -/
def InGrid (x : SP3.Idx → BitVec 32) : Prop := ∀ y, (x y).toNat < 64

/-- Every point of the grid has a voxel. -/
theorem segOf_lt {x : SP3.Idx → BitVec 32} (h : InGrid x) (n : Fin 1000000) : (segOf x n).toNat < 32768 := voxel_lt (h _) (h _) (h _)

/-- A coordinate that passes the two comparisons of the precondition is in the grid. -/
theorem grid_of_checks {a : BitVec 32} (h : IntOp.andi (IntOp.cmpi .sge a 0#32) (IntOp.cmpi .slt a 64#32) = 1#1) : a.toNat < 64 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true] at h
  obtain ⟨hge, hlt⟩ := h
  simp only [BitVec.sle, BitVec.slt, decide_eq_true_eq, BitVec.toInt, BitVec.toNat_ofNat] at hge hlt
  omega

end Pool

end
-- ==== Proof.ITrip.lean ====
/- One trip of the kernel's loop: ten pairs of points. -/
module

public import proofs.«01_k».proof.Proof.Gen.KernelIdeal.Loops
public import proofs.«01_k».proof.Proof.Rows

@[expose] public section

set_option maxRecDepth 16384

noncomputable section

namespace Cert.KernelIdeal.Pooling

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

/-- A row number below 32768 passes both of a word's range checks. -/
theorem chk_of {v : BitVec 32} (h : v.toNat < 32768) : ∀ a, (![v.toNat, 0, 0] : Fin 3 → ℕ) a + S1x1x128.size a ≤ S32768x1x128.size a :=
  Pool.inb_row h

set_option maxHeartbeats 1000000 in
/-- A trip takes the accumulator from what the points before it left to what the points up to the next trip leave. -/
theorem trip (c : Dev nD) (i : grid0.Coords) (arg1 : Memref sig .tc .hbm S100x10000 .i32) (harg1 : arg1.IsWhole)
    (arg2 : Memref sig .tc .vmem S10000x1x128 .f32) (harg2 : arg2.IsWhole) (arg3 : Memref sig .tc .vmem S32768x1x128 .f32) (harg3 : arg3.IsWhole)
    (arg4 : Memref sig .tc .smem S2x10000 .i32) (harg4 : arg4.IsWhole) (arg5 : DmaSems sig S2) (v0 : BitVec 32)
    (S : Finset (Idx (arg4.view.loc (c : Thread nD τ)))) (g : Buf (Elt F) (arg4.view.loc (c : Thread nD τ)))
    (w : ℕ → BitVec 32) (W : Pool.Words (c : Thread nD τ) arg4 S g ((i 0).val % 2) w)
    (x : Vec F S10000x1x128 .f32) (d : Vec F S32768x1x128 .f32) (k : Fin k0_t1_loop.trips) :
    (Pool.St (c : Thread nD τ) arg2 arg3 arg4 S g x d : sProp 𝕄)
      ⊢ wp frame (wpE (defs₀ (F := F)) Variants.none (c : Thread nD τ) none) Set.univ
          (k0_t1_body (F := F) i arg1 harg1 arg2 harg2 arg3 harg3 arg4 harg4 arg5 v0 k ⟨⟩)
          (fun _ => Pool.St (c : Thread nD τ) arg2 arg3 arg4 S g x (Pool.tripUp x w (20 * k.val) d)) := by
  have hk : k.val < 500 := lt_of_lt_of_le k.isLt k0_t1_abs.2.1
  have hw := fun n hn => W.lt n hn
  unfold k0_t1_body
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [bind_assoc, pure_bind]
  refine Pool.St.voxel _ _ _ _ W (20 * k.val) (by omega) ((k0_off7_eq i k 0).trans rfl) ?_
  refine Pool.St.assumed _ _ _ _ ⟨chk_of (hw (20 * k.val) (by omega)), chk_of (hw (20 * k.val) (by omega))⟩ ?_
  refine Pool.St.voxel _ _ _ _ W (20 * k.val + 1) (by omega) ((k0_off7_eq i k 1).trans (by simp [Nat.add_assoc])) ?_
  refine Pool.St.assumed _ _ _ _ (chk_of (hw (20 * k.val + 1) (by omega))) ?_
  refine Pool.St.row _ _ _ _ (w (20 * k.val)).toNat (hw _ (by omega)) rfl ?_
  refine Pool.St.point _ _ _ _ (20 * k.val) (by omega) (k0_off9_eq k) ?_
  refine Pool.St.row _ _ _ _ (w (20 * k.val + 1)).toNat (hw _ (by omega)) rfl ?_
  refine Pool.St.point _ _ _ _ (20 * k.val + 1) (by omega) (k0_off11_eq k) ?_
  refine Pool.St.row _ _ _ _ (w (20 * k.val)).toNat (hw _ (by omega)) rfl ?_
  refine Pool.St.set _ _ _ _ (w (20 * k.val)).toNat rfl ?_
  refine Pool.St.row _ _ _ _ (w (20 * k.val + 1)).toNat (hw _ (by omega)) rfl ?_
  refine Pool.St.set _ _ _ _ (w (20 * k.val + 1)).toNat rfl ?_
  refine Pool.St.paired _ (20 * k.val) rfl rfl ?_
  refine Pool.St.voxel _ _ _ _ W (20 * k.val + 2) (by omega) ((k0_off13_eq i k 0).trans rfl) ?_
  refine Pool.St.assumed _ _ _ _ ⟨chk_of (hw (20 * k.val + 2) (by omega)), chk_of (hw (20 * k.val + 2) (by omega))⟩ ?_
  refine Pool.St.voxel _ _ _ _ W (20 * k.val + 2 + 1) (by omega) ((k0_off13_eq i k 1).trans (by simp [Nat.add_assoc])) ?_
  refine Pool.St.assumed _ _ _ _ (chk_of (hw (20 * k.val + 2 + 1) (by omega))) ?_
  refine Pool.St.row _ _ _ _ (w (20 * k.val + 2)).toNat (hw _ (by omega)) rfl ?_
  refine Pool.St.point _ _ _ _ (20 * k.val + 2) (by omega) (k0_off15_eq k) ?_
  refine Pool.St.row _ _ _ _ (w (20 * k.val + 2 + 1)).toNat (hw _ (by omega)) rfl ?_
  refine Pool.St.point _ _ _ _ (20 * k.val + 2 + 1) (by omega) (k0_off17_eq k) ?_
  refine Pool.St.row _ _ _ _ (w (20 * k.val + 2)).toNat (hw _ (by omega)) rfl ?_
  refine Pool.St.set _ _ _ _ (w (20 * k.val + 2)).toNat rfl ?_
  refine Pool.St.row _ _ _ _ (w (20 * k.val + 2 + 1)).toNat (hw _ (by omega)) rfl ?_
  refine Pool.St.set _ _ _ _ (w (20 * k.val + 2 + 1)).toNat rfl ?_
  refine Pool.St.paired _ (20 * k.val + 2) rfl rfl ?_
  refine Pool.St.voxel _ _ _ _ W (20 * k.val + 4) (by omega) ((k0_off19_eq i k 0).trans rfl) ?_
  refine Pool.St.assumed _ _ _ _ ⟨chk_of (hw (20 * k.val + 4) (by omega)), chk_of (hw (20 * k.val + 4) (by omega))⟩ ?_
  refine Pool.St.voxel _ _ _ _ W (20 * k.val + 4 + 1) (by omega) ((k0_off19_eq i k 1).trans (by simp [Nat.add_assoc])) ?_
  refine Pool.St.assumed _ _ _ _ (chk_of (hw (20 * k.val + 4 + 1) (by omega))) ?_
  refine Pool.St.row _ _ _ _ (w (20 * k.val + 4)).toNat (hw _ (by omega)) rfl ?_
  refine Pool.St.point _ _ _ _ (20 * k.val + 4) (by omega) (k0_off21_eq k) ?_
  refine Pool.St.row _ _ _ _ (w (20 * k.val + 4 + 1)).toNat (hw _ (by omega)) rfl ?_
  refine Pool.St.point _ _ _ _ (20 * k.val + 4 + 1) (by omega) (k0_off23_eq k) ?_
  refine Pool.St.row _ _ _ _ (w (20 * k.val + 4)).toNat (hw _ (by omega)) rfl ?_
  refine Pool.St.set _ _ _ _ (w (20 * k.val + 4)).toNat rfl ?_
  refine Pool.St.row _ _ _ _ (w (20 * k.val + 4 + 1)).toNat (hw _ (by omega)) rfl ?_
  refine Pool.St.set _ _ _ _ (w (20 * k.val + 4 + 1)).toNat rfl ?_
  refine Pool.St.paired _ (20 * k.val + 4) rfl rfl ?_
  refine Pool.St.voxel _ _ _ _ W (20 * k.val + 6) (by omega) ((k0_off25_eq i k 0).trans rfl) ?_
  refine Pool.St.assumed _ _ _ _ ⟨chk_of (hw (20 * k.val + 6) (by omega)), chk_of (hw (20 * k.val + 6) (by omega))⟩ ?_
  refine Pool.St.voxel _ _ _ _ W (20 * k.val + 6 + 1) (by omega) ((k0_off25_eq i k 1).trans (by simp [Nat.add_assoc])) ?_
  refine Pool.St.assumed _ _ _ _ (chk_of (hw (20 * k.val + 6 + 1) (by omega))) ?_
  refine Pool.St.row _ _ _ _ (w (20 * k.val + 6)).toNat (hw _ (by omega)) rfl ?_
  refine Pool.St.point _ _ _ _ (20 * k.val + 6) (by omega) (k0_off27_eq k) ?_
  refine Pool.St.row _ _ _ _ (w (20 * k.val + 6 + 1)).toNat (hw _ (by omega)) rfl ?_
  refine Pool.St.point _ _ _ _ (20 * k.val + 6 + 1) (by omega) (k0_off29_eq k) ?_
  refine Pool.St.row _ _ _ _ (w (20 * k.val + 6)).toNat (hw _ (by omega)) rfl ?_
  refine Pool.St.set _ _ _ _ (w (20 * k.val + 6)).toNat rfl ?_
  refine Pool.St.row _ _ _ _ (w (20 * k.val + 6 + 1)).toNat (hw _ (by omega)) rfl ?_
  refine Pool.St.set _ _ _ _ (w (20 * k.val + 6 + 1)).toNat rfl ?_
  refine Pool.St.paired _ (20 * k.val + 6) rfl rfl ?_
  refine Pool.St.voxel _ _ _ _ W (20 * k.val + 8) (by omega) ((k0_off31_eq i k 0).trans rfl) ?_
  refine Pool.St.assumed _ _ _ _ ⟨chk_of (hw (20 * k.val + 8) (by omega)), chk_of (hw (20 * k.val + 8) (by omega))⟩ ?_
  refine Pool.St.voxel _ _ _ _ W (20 * k.val + 8 + 1) (by omega) ((k0_off31_eq i k 1).trans (by simp [Nat.add_assoc])) ?_
  refine Pool.St.assumed _ _ _ _ (chk_of (hw (20 * k.val + 8 + 1) (by omega))) ?_
  refine Pool.St.row _ _ _ _ (w (20 * k.val + 8)).toNat (hw _ (by omega)) rfl ?_
  refine Pool.St.point _ _ _ _ (20 * k.val + 8) (by omega) (k0_off33_eq k) ?_
  refine Pool.St.row _ _ _ _ (w (20 * k.val + 8 + 1)).toNat (hw _ (by omega)) rfl ?_
  refine Pool.St.point _ _ _ _ (20 * k.val + 8 + 1) (by omega) (k0_off35_eq k) ?_
  refine Pool.St.row _ _ _ _ (w (20 * k.val + 8)).toNat (hw _ (by omega)) rfl ?_
  refine Pool.St.set _ _ _ _ (w (20 * k.val + 8)).toNat rfl ?_
  refine Pool.St.row _ _ _ _ (w (20 * k.val + 8 + 1)).toNat (hw _ (by omega)) rfl ?_
  refine Pool.St.set _ _ _ _ (w (20 * k.val + 8 + 1)).toNat rfl ?_
  refine Pool.St.paired _ (20 * k.val + 8) rfl rfl ?_
  refine Pool.St.voxel _ _ _ _ W (20 * k.val + 10) (by omega) ((k0_off37_eq i k 0).trans rfl) ?_
  refine Pool.St.assumed _ _ _ _ ⟨chk_of (hw (20 * k.val + 10) (by omega)), chk_of (hw (20 * k.val + 10) (by omega))⟩ ?_
  refine Pool.St.voxel _ _ _ _ W (20 * k.val + 10 + 1) (by omega) ((k0_off37_eq i k 1).trans (by simp [Nat.add_assoc])) ?_
  refine Pool.St.assumed _ _ _ _ (chk_of (hw (20 * k.val + 10 + 1) (by omega))) ?_
  refine Pool.St.row _ _ _ _ (w (20 * k.val + 10)).toNat (hw _ (by omega)) rfl ?_
  refine Pool.St.point _ _ _ _ (20 * k.val + 10) (by omega) (k0_off39_eq k) ?_
  refine Pool.St.row _ _ _ _ (w (20 * k.val + 10 + 1)).toNat (hw _ (by omega)) rfl ?_
  refine Pool.St.point _ _ _ _ (20 * k.val + 10 + 1) (by omega) (k0_off41_eq k) ?_
  refine Pool.St.row _ _ _ _ (w (20 * k.val + 10)).toNat (hw _ (by omega)) rfl ?_
  refine Pool.St.set _ _ _ _ (w (20 * k.val + 10)).toNat rfl ?_
  refine Pool.St.row _ _ _ _ (w (20 * k.val + 10 + 1)).toNat (hw _ (by omega)) rfl ?_
  refine Pool.St.set _ _ _ _ (w (20 * k.val + 10 + 1)).toNat rfl ?_
  refine Pool.St.paired _ (20 * k.val + 10) rfl rfl ?_
  refine Pool.St.voxel _ _ _ _ W (20 * k.val + 12) (by omega) ((k0_off43_eq i k 0).trans rfl) ?_
  refine Pool.St.assumed _ _ _ _ ⟨chk_of (hw (20 * k.val + 12) (by omega)), chk_of (hw (20 * k.val + 12) (by omega))⟩ ?_
  refine Pool.St.voxel _ _ _ _ W (20 * k.val + 12 + 1) (by omega) ((k0_off43_eq i k 1).trans (by simp [Nat.add_assoc])) ?_
  refine Pool.St.assumed _ _ _ _ (chk_of (hw (20 * k.val + 12 + 1) (by omega))) ?_
  refine Pool.St.row _ _ _ _ (w (20 * k.val + 12)).toNat (hw _ (by omega)) rfl ?_
  refine Pool.St.point _ _ _ _ (20 * k.val + 12) (by omega) (k0_off45_eq k) ?_
  refine Pool.St.row _ _ _ _ (w (20 * k.val + 12 + 1)).toNat (hw _ (by omega)) rfl ?_
  refine Pool.St.point _ _ _ _ (20 * k.val + 12 + 1) (by omega) (k0_off47_eq k) ?_
  refine Pool.St.row _ _ _ _ (w (20 * k.val + 12)).toNat (hw _ (by omega)) rfl ?_
  refine Pool.St.set _ _ _ _ (w (20 * k.val + 12)).toNat rfl ?_
  refine Pool.St.row _ _ _ _ (w (20 * k.val + 12 + 1)).toNat (hw _ (by omega)) rfl ?_
  refine Pool.St.set _ _ _ _ (w (20 * k.val + 12 + 1)).toNat rfl ?_
  refine Pool.St.paired _ (20 * k.val + 12) rfl rfl ?_
  refine Pool.St.voxel _ _ _ _ W (20 * k.val + 14) (by omega) ((k0_off49_eq i k 0).trans rfl) ?_
  refine Pool.St.assumed _ _ _ _ ⟨chk_of (hw (20 * k.val + 14) (by omega)), chk_of (hw (20 * k.val + 14) (by omega))⟩ ?_
  refine Pool.St.voxel _ _ _ _ W (20 * k.val + 14 + 1) (by omega) ((k0_off49_eq i k 1).trans (by simp [Nat.add_assoc])) ?_
  refine Pool.St.assumed _ _ _ _ (chk_of (hw (20 * k.val + 14 + 1) (by omega))) ?_
  refine Pool.St.row _ _ _ _ (w (20 * k.val + 14)).toNat (hw _ (by omega)) rfl ?_
  refine Pool.St.point _ _ _ _ (20 * k.val + 14) (by omega) (k0_off51_eq k) ?_
  refine Pool.St.row _ _ _ _ (w (20 * k.val + 14 + 1)).toNat (hw _ (by omega)) rfl ?_
  refine Pool.St.point _ _ _ _ (20 * k.val + 14 + 1) (by omega) (k0_off53_eq k) ?_
  refine Pool.St.row _ _ _ _ (w (20 * k.val + 14)).toNat (hw _ (by omega)) rfl ?_
  refine Pool.St.set _ _ _ _ (w (20 * k.val + 14)).toNat rfl ?_
  refine Pool.St.row _ _ _ _ (w (20 * k.val + 14 + 1)).toNat (hw _ (by omega)) rfl ?_
  refine Pool.St.set _ _ _ _ (w (20 * k.val + 14 + 1)).toNat rfl ?_
  refine Pool.St.paired _ (20 * k.val + 14) rfl rfl ?_
  refine Pool.St.voxel _ _ _ _ W (20 * k.val + 16) (by omega) ((k0_off55_eq i k 0).trans rfl) ?_
  refine Pool.St.assumed _ _ _ _ ⟨chk_of (hw (20 * k.val + 16) (by omega)), chk_of (hw (20 * k.val + 16) (by omega))⟩ ?_
  refine Pool.St.voxel _ _ _ _ W (20 * k.val + 16 + 1) (by omega) ((k0_off55_eq i k 1).trans (by simp [Nat.add_assoc])) ?_
  refine Pool.St.assumed _ _ _ _ (chk_of (hw (20 * k.val + 16 + 1) (by omega))) ?_
  refine Pool.St.row _ _ _ _ (w (20 * k.val + 16)).toNat (hw _ (by omega)) rfl ?_
  refine Pool.St.point _ _ _ _ (20 * k.val + 16) (by omega) (k0_off57_eq k) ?_
  refine Pool.St.row _ _ _ _ (w (20 * k.val + 16 + 1)).toNat (hw _ (by omega)) rfl ?_
  refine Pool.St.point _ _ _ _ (20 * k.val + 16 + 1) (by omega) (k0_off59_eq k) ?_
  refine Pool.St.row _ _ _ _ (w (20 * k.val + 16)).toNat (hw _ (by omega)) rfl ?_
  refine Pool.St.set _ _ _ _ (w (20 * k.val + 16)).toNat rfl ?_
  refine Pool.St.row _ _ _ _ (w (20 * k.val + 16 + 1)).toNat (hw _ (by omega)) rfl ?_
  refine Pool.St.set _ _ _ _ (w (20 * k.val + 16 + 1)).toNat rfl ?_
  refine Pool.St.paired _ (20 * k.val + 16) rfl rfl ?_
  refine Pool.St.voxel _ _ _ _ W (20 * k.val + 18) (by omega) ((k0_off61_eq i k 0).trans rfl) ?_
  refine Pool.St.assumed _ _ _ _ ⟨chk_of (hw (20 * k.val + 18) (by omega)), chk_of (hw (20 * k.val + 18) (by omega))⟩ ?_
  refine Pool.St.voxel _ _ _ _ W (20 * k.val + 18 + 1) (by omega) ((k0_off61_eq i k 1).trans (by simp [Nat.add_assoc])) ?_
  refine Pool.St.assumed _ _ _ _ (chk_of (hw (20 * k.val + 18 + 1) (by omega))) ?_
  refine Pool.St.row _ _ _ _ (w (20 * k.val + 18)).toNat (hw _ (by omega)) rfl ?_
  refine Pool.St.point _ _ _ _ (20 * k.val + 18) (by omega) (k0_off63_eq k) ?_
  refine Pool.St.row _ _ _ _ (w (20 * k.val + 18 + 1)).toNat (hw _ (by omega)) rfl ?_
  refine Pool.St.point _ _ _ _ (20 * k.val + 18 + 1) (by omega) (k0_off65_eq k) ?_
  refine Pool.St.row _ _ _ _ (w (20 * k.val + 18)).toNat (hw _ (by omega)) rfl ?_
  refine Pool.St.set _ _ _ _ (w (20 * k.val + 18)).toNat rfl ?_
  refine Pool.St.row _ _ _ _ (w (20 * k.val + 18 + 1)).toNat (hw _ (by omega)) rfl ?_
  refine Pool.St.set _ _ _ _ (w (20 * k.val + 18 + 1)).toNat rfl ?_
  refine Pool.St.paired _ (20 * k.val + 18) rfl rfl ?_
  rw [wp_pure]; exact BI.fupd_intro

end Cert.KernelIdeal.Pooling

end
-- ==== Proof.IRing.lean ====
/- The kernel's ring of two slots: the references, what each owns, and the ring before and after the points. -/
module

public import proofs.«01_k».proof.Proof.Gen.KernelIdeal.Frame
public import proofs.«01_k».proof.Proof.Gen.KernelIdeal.Skeleton

@[expose] public section

set_option maxRecDepth 16384

noncomputable section

namespace Cert.KernelIdeal.Pooling

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen hiding hmain W_main_arg0 W_main_arg1 frame_of

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The main program is the host lines up to the region, the region, and the host line after it. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- The last host line leaves the features as they were at the launch. -/
theorem W_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- The last host line leaves the coordinates as they were at the launch. -/
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- A tile of features is in its buffer when its point starts. -/
theorem before_feats_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- A run that ends with the arrays at their computed contents leaves both arguments unchanged. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c))⟩) h

/-- The point is the first tile. -/
abbrev isFirst (i : grid0.Coords) : Prop := (Scalar.cmpi .ne (Scalar.extui (Scalar.cmpi .eq (BitVec.ofNat 32 (i 0).val) 0#32)) 0#32) = 1#1
/-- The first tile is number 0. -/
theorem first_iff : ∀ t : Fin cfg0.N, isFirst (grid0.coords t) ↔ t.val % 100 = 0 :=
  (fun t => by
    have ht : t.val < 100 := Nat.lt_of_lt_of_eq t.isLt N_0
    have e0 : (grid0.coords t 0).val = t.val / 1 % 100 := Pipeline.Grid.coords_val t 0 (by decide) rfl
    simp only [isFirst, e0]
    word_cmp
   : ∀ t : Fin grid0.N, isFirst (grid0.coords t) ↔ t.val % 100 = 0)

/-- Another tile follows. -/
abbrev hasMore (i : grid0.Coords) : Prop := k0_cond2 i = 1#1
/-- Another tile follows every tile below number 99. -/
theorem more_iff : ∀ t : Fin cfg0.N, hasMore (grid0.coords t) ↔ t.val < 99 :=
  (by decide +kernel : ∀ t : Fin grid0.N, hasMore (grid0.coords t) ↔ t.val < 99)

/-- The point is the last tile. -/
abbrev isLast (i : grid0.Coords) : Prop := (Scalar.cmpi .ne (Scalar.extui (Scalar.cmpi .eq (BitVec.ofNat 32 (i 0).val) 99#32)) 0#32) = 1#1
/-- The last tile is number 99. -/
theorem last_iff : ∀ t : Fin cfg0.N, isLast (grid0.coords t) ↔ t.val % 100 = 99 :=
  (fun t => by
    have ht : t.val < 100 := Nat.lt_of_lt_of_eq t.isLt N_0
    have e0 : (grid0.coords t 0).val = t.val / 1 % 100 := Pipeline.Grid.coords_val t 0 (by decide) rfl
    simp only [isLast, e0]
    word_cmp
   : ∀ t : Fin grid0.N, isLast (grid0.coords t) ↔ t.val % 100 = 99)

/-- The accumulator, seen whole. -/
abbrev outView : View sig .tc .vmem S32768x1x128 .f32 := (Memref.whole cc0_stg1_0 : Memref sig .tc .vmem S32768x1x128 .f32).view
/-- The buffer of a tile of features. -/
abbrev featsRef (t : Fin cfg0.N) : Memref sig .tc .vmem S10000x1x128 .f32 := win0_0.stage (cfg0.slots t 0)
/-- That buffer is seen whole. -/
abbrev featsWhole (t : Fin cfg0.N) : (featsRef t).IsWhole := hstage0_0 ((cfg0.slots t 0).cast nbuf0_0)
/-- The buffer of the accumulator. -/
abbrev outRef (t : Fin cfg0.N) : Memref sig .tc .vmem S32768x1x128 .f32 := win0_1.stage (cfg0.slots t 1)
/-- That buffer is seen whole. -/
abbrev outWhole (t : Fin cfg0.N) : (outRef t).IsWhole := hstage0_1 ((cfg0.slots t 1).cast nbuf0_1)
/-- The two-slot scratch for the rows of voxel numbers. -/
abbrev scratchRef : Memref sig .tc .smem S2x10000 .i32 := Memref.whole cc0_scratch0
/-- The voxel numbers, one row per tile. -/
abbrev wordsRef : Memref sig .tc .hbm S100x10000 .i32 := Memref.whole main_v13
/-- What the buffer behind a reference may hold. -/
abbrev CellsOf (c : Dev nD) {sp : Space} {S : Shape} {e : EltTy} (M : Memref sig .tc sp S e) : Type := Buf (Elt F) (M.view.loc (c : Thread nD τ))
/-- The buffer behind a reference holds these cells, and is owned fully. -/
abbrev cellsPt (c : Dev nD) {sp : Space} {S : Shape} {e : EltTy} (M : Memref sig .tc sp S e) (f : CellsOf (F := F) c M) : sProp 𝕄 :=
  M.view.loc (c : Thread nD τ) ↦{fullShare} f

/-- The two semaphores of the copies. -/
abbrev semsOf : Fin 2 → SemLoc sig := fun j => (![SemLoc.dma 3, SemLoc.dma 4] : Fin 2 → SemLoc sig) j
/-- The two semaphores are the kernel's own. -/
theorem semsOf_facts : Pipeline.OwnSemFacts spec0 semsOf := by decide
/-- Owning the two semaphores at zero, one by one. -/
theorem semsOf_eq (c : Dev nD) :
    (Pipeline.ownSems0 (Ix := Unit) (Name := ℕ) (U := Pipeline.UD sig nD τ) (Lvl := ℕ) (Val := Elt F) (τ := τ) semsOf c : sProp 𝕄)
      = iprop(semVal ((c : Thread nD τ), SemLoc.dma 3) 0 ∗ semVal ((c : Thread nD τ), SemLoc.dma 4) 0) := by
  rw [Pipeline.ownSems0_eq_of_list c semsOf [0, 1] (by decide) (by decide)]; rfl
/-- The array the kernel reads by its own copies. -/
def keptRefs : Finset (Ref sig .tc) := {main_v13}
/-- That array is not one of the pipeline's windows. -/
theorem kept_sub : keptRefs ⊆ Pipeline.restRefs sig spec0 := by decide
/-- The last host line does not touch that array. -/
theorem sfx_but : ∀ ops ∈ ([hostOps1] : List (List (HloOp τ sig (Elt F)))), ∀ op ∈ ops,
    op.bufs ⊆ Pipeline.tailRefsBut sig Pipeline.Prefetch.none spec0 keptRefs := by
  intro ops hops op hop
  simp only [List.mem_cons, List.mem_nil_iff, or_false] at hops
  rcases hops with rfl
  · refine Pipeline.sub_tailRefsBut Pipeline.Prefetch.none spec0 keptRefs op ((List.forall_iff_forall_mem.mp hostOps1_sub) op hop) (fun j => j.elim0) ?_
    simp only [hostOps1, List.mem_cons, List.mem_nil_iff, or_false] at hop
    rcases hop with rfl
    all_goals intro b hb; simp only [keptRefs, Finset.mem_insert, Finset.mem_singleton] at hb
    all_goals rcases hb with rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- Owning that array, spelled for the one array. -/
theorem words_eq (c : Dev nD) :
    (bigSep keptRefs (fun b => ((c : Thread nD τ).loc b) ↦{fullShare} V m c b) : sProp 𝕄) = iprop(cellsPt c wordsRef (V m c main_v13)) := by
  rw [BI.bigSep_eq_bigSepL_of_eq [main_v13] (by decide) (by decide)]; rfl

/-- What the launch hands to the first point, part by part. -/
theorem handed_eq (c : Dev nD) :
    (Pipeline.ΦD semsOf spec0 keptRefs (V m) c : sProp 𝕄)
      = iprop(iprop((∃ d, owns (c : Thread nD τ) scratchRef fullShare d)) ∗ (∃ r, prngReg c r) ∗ iprop(semVal ((c : Thread nD τ), SemLoc.dma 3) 0 ∗ semVal ((c : Thread nD τ), SemLoc.dma 4) 0) ∗ iprop(cellsPt c wordsRef (V m c main_v13))) := by
  rw [Pipeline.ΦD_eq, scopedRest0_eq, semsOf_eq, words_eq]; simp only [scratchRef, owns_whole]; try rfl

/-- There is at least one point. -/
instance : NeZero grid0.N := ⟨by rw [N_0]; decide⟩
/-- A slot lies in the scratch. -/
theorem inb_slot (s : Fin 2) : ∀ a, (![s.val, 0] : Fin 2 → Nat) a + S1x10000.size a ≤ S2x10000.size a := by
  have := s.isLt; intro a; fin_cases a <;> simp <;> omega
/-- A row lies in the array of voxel numbers. -/
theorem inb_source (b : Fin 100) : ∀ a, (![1 * b.val, 0] : Fin 2 → Nat) a + S1x10000.size a ≤ S100x10000.size a := by
  have := b.isLt; intro a; fin_cases a <;> simp <;> omega
/-- A semaphore lies in the pair. -/
theorem inb_cell (s : Fin 2) : ∀ a, (![s.val] : Fin 1 → Nat) a + S1.size a ≤ S2.size a := by
  have := s.isLt; intro a; fin_cases a <;> simp <;> omega
/-- Slot `s` of the scratch. -/
def slotRef (s : Fin 2) : Memref sig .tc .smem S10000 .i32 :=
  (scratchRef.slice (Rect.unit (s := S2x10000) ![s.val, 0] S1x10000.size (inb_slot s)) (fun _ => rfl)).squeeze S10000 squeezes_S1x10000_S10000
/-- Row `b` of the voxel numbers. -/
def rowRef (b : Fin 100) : Memref sig .tc .hbm S10000 .i32 :=
  (wordsRef.slice (Rect.unit (s := S100x10000) ![1 * b.val, 0] S1x10000.size (inb_source b)) (fun _ => rfl)).squeeze S10000 squeezes_S1x10000_S10000
/-- Semaphore `s` of the pair. -/
def cellRef (s : Fin 2) : DmaSems sig S_ := (cc0_scratch1.slice (Rect.unit (s := S2) ![s.val] S1.size (inb_cell s))).squeeze S_ squeezes_S1_S_
/-- The place of semaphore `s`. -/
abbrev cellLoc (s : Fin 2) : SemLoc sig := SemLoc.dma (cellRef s).sem
/-- The first semaphore's place. -/
theorem cellLoc_0 : cellLoc 0 = SemLoc.dma 3 := by decide
/-- The second semaphore's place. -/
theorem cellLoc_1 : cellLoc 1 = SemLoc.dma 4 := by decide

section Ring2
variable (c : Dev nD) (W : CellsOf (F := F) c wordsRef)
/-- The half of the array of voxel numbers that a slot's copies read. -/
abbrev part (s : Fin 2) : PosShare TreeShare := if s.val = 0 then fullShare.left else fullShare.right
/-- A slot's cells. -/
abbrev slotPt (s : Fin 2) (f : CellsOf (F := F) c (slotRef s)) : sProp 𝕄 := (slotRef s).view.loc (c : Thread nD τ) ↦[(slotRef s).view.set]{fullShare} f
/-- A slot's semaphore at zero. -/
abbrev cellPt (s : Fin 2) : sProp 𝕄 := semVal ((c : Thread nD τ), cellLoc s) 0
/-- A row's cells, at the slot's half. -/
abbrev rowPt (s : Fin 2) (b : Fin 100) : sProp 𝕄 := (rowRef b).view.loc (c : Thread nD τ) ↦[(rowRef b).view.set]{part s} W
/-- All the other rows, at the slot's half. -/
def restPt (s : Fin 2) (b : Fin 100) : sProp 𝕄 := ((c : Thread nD τ).loc main_v13) ↦[Finset.univ \ (rowRef b).view.set]{part s} W
/-- Every row, at the slot's half. -/
abbrev wholePt (s : Fin 2) : sProp 𝕄 := ((c : Thread nD τ).loc main_v13) ↦[Finset.univ]{part s} W
/-- A slot after row `b` has been copied into it. -/
abbrev landed (s : Fin 2) (b : Fin 100) (f : CellsOf (F := F) c (slotRef s)) : CellsOf (F := F) c (slotRef s) :=
  (slotRef s).view.writes (Elt F) f [⟨Rect.whole S10000, ReadAs.same.apply ((rowRef b).view.read (Elt F) W)⟩]
/-- A copy of row `b` into the slot, started and not yet waited for. -/
abbrev flightPt (s : Fin 2) (b : Fin 100) (f : CellsOf (F := F) c (slotRef s)) : sProp 𝕄 :=
  Transfers.Flight countersEmb (c : Thread nD τ) (cellLoc s) default ((slotRef s).view.amount (cellLoc s))
    iprop(slotPt c s (landed c W s b f) ∗ rowPt c W s b)
/-- A free slot beside its half of the rows. -/
abbrev slotAnd (s : Fin 2) (f : CellsOf (F := F) c (slotRef s)) : sProp 𝕄 := iprop(slotPt c s f ∗ wholePt c W s)
/-- A copy under way beside the rows it does not read. -/
abbrev flightAnd (s : Fin 2) (b : Fin 100) (f : CellsOf (F := F) c (slotRef s)) : sProp 𝕄 := iprop(flightPt c W s b f ∗ restPt c W s b)
/-- Nothing is kept aside for a row. -/
abbrev noHome (b : Fin 100) : sProp 𝕄 := iprop(emp)
/-- The two slots before point `k`: both free at the start, and later one copy under way and the other slot read. -/
def ringAt (k : ℕ) : sProp 𝕄 :=
  if k = 0 then Ring.At₀ (cellPt c) (slotAnd c W) noHome
  else Ring.AtK 1 (cellPt c) (slotAnd c W) noHome (flightAnd c W) (landed c W) k
omit [FloatOps F] in
/-- The first slot's semaphore. -/
theorem cellPt_0 : cellPt (F := F) c 0 = semVal ((c : Thread nD τ), SemLoc.dma 3) 0 := congrArg (fun x => (semVal ((c : Thread nD τ), x) 0 : sProp 𝕄)) cellLoc_0
omit [FloatOps F] in
/-- The second slot's semaphore. -/
theorem cellPt_1 : cellPt (F := F) c 1 = semVal ((c : Thread nD τ), SemLoc.dma 4) 0 := congrArg (fun x => (semVal ((c : Thread nD τ), x) 0 : sProp 𝕄)) cellLoc_1
end Ring2

/-- The cells of a slot. -/
abbrev slotCells (s : Fin 2) : Finset S2x10000.Idx := (Rect.unit (s := S2x10000) ![s.val, 0] S1x10000.size (inb_slot s)).set
/-- A slot's reference covers the slot's cells. -/
theorem slotCells_eq (s : Fin 2) : (slotRef s).view.set = slotCells s := by
  simp only [slotRef, Memref.view_squeeze, View.set_reshape]; exact View.set_slice_whole _ _
/-- The slots do not overlap. -/
theorem slots_disjoint (s s' : Fin 2) (h : s ≠ s') : Disjoint (slotCells s) (slotCells s') :=
  Ring.lead_disjoint (s := S2x10000) (0 : Fin 2) 1 (fun s : Fin 2 => (![s.val, 0] : Fin 2 → Nat)) S1x10000.size inb_slot (fun s => by simp) rfl s s' h
/-- The slots make up the scratch. -/
theorem slots_cover : Finset.univ.biUnion slotCells = Finset.univ :=
  Ring.lead_cover (s := S2x10000) (0 : Fin 2) 1 (fun s : Fin 2 => (![s.val, 0] : Fin 2 → Nat)) S1x10000.size inb_slot (fun s => by simp)
    (fun s a ha => by fin_cases a <;> first | exact absurd rfl ha | rfl) rfl (fun a ha => by fin_cases a <;> first | exact absurd rfl ha | rfl) rfl

section InOut
variable (c : Dev nD) (W : CellsOf (F := F) c wordsRef)
/-- A slot's cells, as a part of the scratch. -/
theorem slotPt_eq (s : Fin 2) (f) : slotPt (F := F) c s f = (((c : Thread nD τ).loc cc0_scratch0) ↦[slotCells s]{fullShare} f : sProp 𝕄) := by
  unfold slotPt; rw [slotCells_eq]; rfl
/-- The rows are one row and the others. -/
theorem source_split (s : Fin 2) (b : Fin 100) : wholePt (F := F) c W s ⊣⊢ iprop(rowPt c W s b ∗ restPt c W s b) := by
  unfold restPt; exact pointsTo_split_subset (Finset.subset_univ _)
/-- The array of rows is shared between the slots. -/
theorem whole_split : (cellsPt c wordsRef W : sProp 𝕄) ⊣⊢ iprop(wholePt c W 0 ∗ wholePt c W 1) :=
  pointsTo_share (PosShare.mem_left_op_right fullShare)
set_option maxHeartbeats 1000000 in
/-- The scratch falls into its slots. -/
theorem slots_in : iprop(∃ d, owns (c : Thread nD τ) scratchRef fullShare d) ⊢ (iprop((∃ f, slotPt (F := F) c 0 f) ∗ ∃ f, slotPt (F := F) c 1 f) : sProp 𝕄) := by
  simp only [scratchRef, owns_whole]
  exact Ring.slots2_split (U := Pipeline.UD sig nD τ) (ℓ := (c : Thread nD τ).loc cc0_scratch0) (q := fullShare) slotCells slots_disjoint slots_cover
    (slotPt c 0) (slotPt c 1) (slotPt_eq c 0) (slotPt_eq c 1)
set_option maxHeartbeats 1000000 in
/-- The slots make up the scratch again. -/
theorem slots_out : (iprop((∃ f, slotPt (F := F) c 0 f) ∗ ∃ f, slotPt (F := F) c 1 f) : sProp 𝕄) ⊢ iprop(∃ d, owns (c : Thread nD τ) scratchRef fullShare d) := by
  simp only [scratchRef, owns_whole]
  exact Ring.slots2_join (U := Pipeline.UD sig nD τ) (ℓ := (c : Thread nD τ).loc cc0_scratch0) (q := fullShare) slotCells slots_disjoint slots_cover
    (slotPt c 0) (slotPt c 1) (slotPt_eq c 0) (slotPt_eq c 1)
end InOut

/-- What the launch hands over is the ring before the first point. -/
theorem ring_in (c : Dev nD) :
    iprop((∃ d, owns (c : Thread nD τ) scratchRef fullShare d) ∗ (semVal ((c : Thread nD τ), SemLoc.dma 3) 0 ∗ semVal ((c : Thread nD τ), SemLoc.dma 4) 0) ∗ cellsPt c wordsRef (V m c main_v13))
      ⊢ ringAt c (V m c main_v13) 0 := by
  unfold ringAt; rw [if_pos rfl]; unfold Ring.At₀
  rw [Ring.bigSep_fin2]
  simp only [Ring.free, cellPt_0, cellPt_1]
  iintro ⟨HS, Hc, HW⟩
  iapply Ring.with_homes₀
  icases Hc with ⟨Hc0, H1⟩
  ihave HS' := (slots_in (F := F) c) $$ HS
  icases HS' with ⟨⟨%d0, HS0⟩, ⟨%d1, HS1⟩⟩
  ihave HW' := (whole_split (F := F) c (V m c main_v13)).1 $$ HW
  icases HW' with ⟨HW0, HW1⟩
  isplitl [Hc0 HS0 HW0]
  · isplitl [Hc0]; · iexact Hc0
    iexists d0; isplitl [HS0]; · iexact HS0
    iexact HW0
  · isplitl [H1]; · iexact H1
    iexists d1; isplitl [HS1]; · iexact HS1
    iexact HW1
/-- The ring after the last point gives everything back. -/
theorem ring_out (c : Dev nD) :
    ringAt c (V m c main_v13) 100
      ⊢ iprop((∃ d, owns (c : Thread nD τ) scratchRef fullShare d) ∗ (semVal ((c : Thread nD τ), SemLoc.dma 3) 0 ∗ semVal ((c : Thread nD τ), SemLoc.dma 4) 0) ∗ cellsPt c wordsRef (V m c main_v13)) := by
  unfold ringAt; rw [if_neg (by decide)]
  iintro H
  ihave H' := (Ring.free2_of_AtK_last _ _ _ _ _) $$ H
  simp only [Ring.free, cellPt_0, cellPt_1]
  icases H' with ⟨-, ⟨Hc0, ⟨%f0, HS0, HW0⟩⟩, ⟨H1, ⟨%f1, HS1, HW1⟩⟩⟩
  isplitl [HS0 HS1]
  · iapply (slots_out (F := F) c); isplitl [HS0]; · iexists f0; iexact HS0
    iexists f1; iexact HS1
  isplitl [Hc0 H1]
  · isplitl [Hc0]; · iexact Hc0
    iexact H1
  · iapply (whole_split (F := F) c (V m c main_v13)).2; isplitl [HW0]; · iexact HW0
    iexact HW1

section Canon
omit [FloatOps F]
/-- The first tile is turn 0. -/
theorem first_turn : ∀ t : Fin grid0.N, isFirst (grid0.coords t) → hasMore (grid0.coords t) → ¬isLast (grid0.coords t) → t.val = 0 ∧ (t.val + 1) = 1 := by decide +kernel
/-- A tile between the first and the last. -/
theorem middle_turn : ∀ t : Fin grid0.N, ¬isFirst (grid0.coords t) → hasMore (grid0.coords t) → ¬isLast (grid0.coords t) → 1 ≤ t.val ∧ t.val + 1 < 100 ∧ (t.val + 1) = t.val + 1 := by decide +kernel
/-- The last tile is turn 99. -/
theorem last_turn : ∀ t : Fin grid0.N, ¬isFirst (grid0.coords t) → ¬hasMore (grid0.coords t) → isLast (grid0.coords t) → 1 ≤ t.val ∧ t.val + 1 = 100 ∧ (t.val + 1) = t.val + 1 := by decide +kernel
set_option synthInstance.maxSize 4096 in
/-- The first copy goes to the slot of turn 0. -/
theorem offs_1 : ∀ t : Fin grid0.N, isFirst (grid0.coords t) → hasMore (grid0.coords t) → ¬isLast (grid0.coords t) → (![0, 0] : Fin 2 → Nat) = ![(Ring.sl 2 t.val).val, 0] := by decide +kernel
/-- The first copy goes to the slot of turn 0, as references. -/
@[sl_canon] theorem at_1 (t : Fin grid0.N) (h0 : isFirst (grid0.coords t)) (h1 : hasMore (grid0.coords t)) (h2 : ¬isLast (grid0.coords t)) :
    (scratchRef.slice (Rect.unit (s := S2x10000) ![0, 0] S1x10000.size inb_S2x10000_S1x10000_0_0) (fun _ => rfl)).squeeze S10000 squeezes_S1x10000_S10000 = slotRef (Ring.sl 2 t.val) :=
  congrArg (fun M : Memref sig .tc .smem S1x10000 .i32 => M.squeeze S10000 squeezes_S1x10000_S10000) (Memref.slice_unit_congr _ (offs_1 t h0 h1 h2) _ _ (fun _ => rfl) (fun _ => rfl))
set_option synthInstance.maxSize 4096 in
/-- The first copy counts on the semaphore of turn 0. -/
theorem offs_2 : ∀ t : Fin grid0.N, isFirst (grid0.coords t) → hasMore (grid0.coords t) → ¬isLast (grid0.coords t) → (![0] : Fin 1 → Nat) = ![(Ring.sl 2 t.val).val] := by decide +kernel
/-- The first copy counts on the semaphore of turn 0, as references. -/
@[sl_canon] theorem at_2 (t : Fin grid0.N) (h0 : isFirst (grid0.coords t)) (h1 : hasMore (grid0.coords t)) (h2 : ¬isLast (grid0.coords t)) :
    (cc0_scratch1.slice (Rect.unit (s := S2) ![0] S1.size inb_S2_S1_0)).squeeze S_ squeezes_S1_S_ = cellRef (Ring.sl 2 t.val) :=
  congrArg (fun A : DmaSems sig S1 => A.squeeze S_ squeezes_S1_S_) (SemArray.slice_unit_congr _ (offs_2 t h0 h1 h2) _ _)
set_option synthInstance.maxSize 4096 in
/-- The first copy reads the row of turn 0. -/
theorem offs_3 : ∀ t : Fin grid0.N, isFirst (grid0.coords t) → hasMore (grid0.coords t) → ¬isLast (grid0.coords t) → (![0, 0] : Fin 2 → Nat) = ![1 * (Ring.bk 100 t.val).val, 0] := by decide +kernel
/-- The first copy reads the row of turn 0, as references. -/
@[sl_canon] theorem at_3 (t : Fin grid0.N) (h0 : isFirst (grid0.coords t)) (h1 : hasMore (grid0.coords t)) (h2 : ¬isLast (grid0.coords t)) :
    (wordsRef.slice (Rect.unit (s := S100x10000) ![0, 0] S1x10000.size inb_S100x10000_S1x10000_0_0) (fun _ => rfl)).squeeze S10000 squeezes_S1x10000_S10000 = rowRef (Ring.bk 100 t.val) :=
  congrArg (fun M : Memref sig .tc .hbm S1x10000 .i32 => M.squeeze S10000 squeezes_S1x10000_S10000) (Memref.slice_unit_congr _ (offs_3 t h0 h1 h2) _ _ (fun _ => rfl) (fun _ => rfl))
set_option synthInstance.maxSize 4096 in
/-- The next copy goes to the slot of the next turn. -/
theorem offs_4 : ∀ t : Fin grid0.N, k0_off2 (grid0.coords t) = ![(Ring.sl 2 (t.val + 1)).val, 0] := by decide +kernel
/-- The next copy goes to the slot of the next turn, as references. -/
@[sl_canon] theorem at_4 (t : Fin grid0.N) (h1 : hasMore (grid0.coords t)) :
    (scratchRef.slice (Rect.unit (s := S2x10000) (k0_off2 (grid0.coords t)) S1x10000.size (k0_off2_inb (grid0.coords t) h1)) (fun _ => rfl)).squeeze S10000 squeezes_S1x10000_S10000 = slotRef (Ring.sl 2 (t.val + 1)) :=
  congrArg (fun M : Memref sig .tc .smem S1x10000 .i32 => M.squeeze S10000 squeezes_S1x10000_S10000) (Memref.slice_unit_congr _ (offs_4 t ) _ _ (fun _ => rfl) (fun _ => rfl))
set_option synthInstance.maxSize 4096 in
/-- The next copy counts on the semaphore of the next turn. -/
theorem offs_5 : ∀ t : Fin grid0.N, k0_off1 (grid0.coords t) = ![(Ring.sl 2 (t.val + 1)).val] := by decide +kernel
/-- The next copy counts on the semaphore of the next turn, as references. -/
@[sl_canon] theorem at_5 (t : Fin grid0.N) (h1 : hasMore (grid0.coords t)) :
    (cc0_scratch1.slice (Rect.unit (s := S2) (k0_off1 (grid0.coords t)) S1.size (k0_off1_inb (grid0.coords t) h1))).squeeze S_ squeezes_S1_S_ = cellRef (Ring.sl 2 (t.val + 1)) :=
  congrArg (fun A : DmaSems sig S1 => A.squeeze S_ squeezes_S1_S_) (SemArray.slice_unit_congr _ (offs_5 t ) _ _)
set_option synthInstance.maxSize 4096 in
/-- At the first tile the next copy reads the row of the next turn. -/
theorem offs_6 : ∀ t : Fin grid0.N, isFirst (grid0.coords t) → hasMore (grid0.coords t) → ¬isLast (grid0.coords t) → k0_off3 (grid0.coords t) = ![1 * (Ring.bk 100 (t.val + 1)).val, 0] := by decide +kernel
/-- At the first tile the next copy reads the row of the next turn, as references. -/
@[sl_canon] theorem at_6 (t : Fin grid0.N) (h0 : isFirst (grid0.coords t)) (h1 : hasMore (grid0.coords t)) (h2 : ¬isLast (grid0.coords t)) :
    (wordsRef.slice (Rect.unit (s := S100x10000) (k0_off3 (grid0.coords t)) S1x10000.size (k0_off3_inb (grid0.coords t) h1)) (fun _ => rfl)).squeeze S10000 squeezes_S1x10000_S10000 = rowRef (Ring.bk 100 (t.val + 1)) :=
  congrArg (fun M : Memref sig .tc .hbm S1x10000 .i32 => M.squeeze S10000 squeezes_S1x10000_S10000) (Memref.slice_unit_congr _ (offs_6 t h0 h1 h2) _ _ (fun _ => rfl) (fun _ => rfl))
set_option synthInstance.maxSize 4096 in
/-- The wait is for the slot of the turn. -/
theorem offs_7 : ∀ t : Fin grid0.N, k0_off5 (grid0.coords t) = ![(Ring.sl 2 t.val).val, 0] := by decide +kernel
/-- The wait is for the slot of the turn, as references. -/
@[sl_canon] theorem at_7 (t : Fin grid0.N) :
    (scratchRef.slice (Rect.unit (s := S2x10000) (k0_off5 (grid0.coords t)) S1x10000.size (k0_off5_inb (grid0.coords t))) (fun _ => rfl)).squeeze S10000 squeezes_S1x10000_S10000 = slotRef (Ring.sl 2 t.val) :=
  congrArg (fun M : Memref sig .tc .smem S1x10000 .i32 => M.squeeze S10000 squeezes_S1x10000_S10000) (Memref.slice_unit_congr _ (offs_7 t ) _ _ (fun _ => rfl) (fun _ => rfl))
set_option synthInstance.maxSize 4096 in
/-- The wait is on the semaphore of the turn. -/
theorem offs_8 : ∀ t : Fin grid0.N, k0_off4 (grid0.coords t) = ![(Ring.sl 2 t.val).val] := by decide +kernel
/-- The wait is on the semaphore of the turn, as references. -/
@[sl_canon] theorem at_8 (t : Fin grid0.N) :
    (cc0_scratch1.slice (Rect.unit (s := S2) (k0_off4 (grid0.coords t)) S1.size (k0_off4_inb (grid0.coords t)))).squeeze S_ squeezes_S1_S_ = cellRef (Ring.sl 2 t.val) :=
  congrArg (fun A : DmaSems sig S1 => A.squeeze S_ squeezes_S1_S_) (SemArray.slice_unit_congr _ (offs_8 t ) _ _)
set_option synthInstance.maxSize 4096 in
/-- At a middle tile the next copy reads the row of the next turn. -/
theorem offs_9 : ∀ t : Fin grid0.N, ¬isFirst (grid0.coords t) → hasMore (grid0.coords t) → ¬isLast (grid0.coords t) → k0_off3 (grid0.coords t) = ![1 * (Ring.bk 100 (t.val + 1)).val, 0] := by decide +kernel
/-- At a middle tile the next copy reads the row of the next turn, as references. -/
@[sl_canon] theorem at_9 (t : Fin grid0.N) (h0 : ¬isFirst (grid0.coords t)) (h1 : hasMore (grid0.coords t)) (h2 : ¬isLast (grid0.coords t)) :
    (wordsRef.slice (Rect.unit (s := S100x10000) (k0_off3 (grid0.coords t)) S1x10000.size (k0_off3_inb (grid0.coords t) h1)) (fun _ => rfl)).squeeze S10000 squeezes_S1x10000_S10000 = rowRef (Ring.bk 100 (t.val + 1)) :=
  congrArg (fun M : Memref sig .tc .hbm S1x10000 .i32 => M.squeeze S10000 squeezes_S1x10000_S10000) (Memref.slice_unit_congr _ (offs_9 t h0 h1 h2) _ _ (fun _ => rfl) (fun _ => rfl))
end Canon

end Cert.KernelIdeal.Pooling

end
-- ==== Proof.ITile.lean ====
/- The voxel numbers in a slot, and the loop over a tile's points. -/
module

public import proofs.«01_k».proof.Proof.ITrip
public import proofs.«01_k».proof.Proof.IRing

@[expose] public section

set_option maxRecDepth 16384

noncomputable section

namespace Cert.KernelIdeal.Pooling

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen hiding hmain W_main_arg0 W_main_arg1 frame_of

variable {F : FTy → Type} [FloatOps F]

local notation "𝕄" => MT nD τ sig Unit (Elt F) ℕ (Pipeline.UD sig nD τ) ℕ

/-- Row `b`, column `n` of the array of voxel numbers. -/
def cellAt (b : Fin 100) (n : ℕ) : S100x10000.Idx
  | ⟨0, _⟩ => b
  | ⟨1, _⟩ => Fin.ofNat 10000 n

/-- The voxel number of point `n` of tile `b`. -/
def word (c : Dev nD) (W : CellsOf (F := F) c wordsRef) (b : Fin 100) (n : ℕ) : BitVec 32 := wordsRef.view.read (Elt F) W (cellAt b n)

/-- Point `n` of a row. -/
def pointIx (n : Fin 10000) : S10000.Idx
  | ⟨0, _⟩ => n

/-- Element `n` of a slot is element `(s, n)` of the scratch. -/
theorem slot_emb (s : Fin 2) (n : Fin 10000) (y : S2x10000.Idx) (h0 : (y 0).val = s.val) (h1 : (y 1).val = n.val) (x : S10000.Idx) (hx : x 0 = n) :
    (slotRef s).view.emb x = scratchRef.view.emb y := by
  unfold slotRef
  show scratchRef.view.emb ((Rect.unit (s := S2x10000) ![s.val, 0] S1x10000.size (inb_slot s)).emb (Shape.reshapeEquiv _ x)) = _
  refine congrArg _ ?_
  have hn := n.isLt
  have e : Shape.reshapeEquiv (squeezes_S1x10000_S10000).numel_eq x = (fun a => match a with | ⟨0, _⟩ => (0 : Fin 1) | ⟨1, _⟩ => n : S1x10000.Idx) := by
    refine Shape.reshapeEquiv_eq_of_rowMajor _ ?_
    rw [Shape.rowMajor_val_two, Shape.rowMajor_val_one]
    show 0 * 10000 + n.val = (x 0).val
    rw [hx]; omega
  rw [e]
  funext a; refine Fin.ext ?_
  fin_cases a
  · show s.val + 1 * 0 = (y 0).val
    omega
  · show 0 + 1 * n.val = (y 1).val
    omega

/-- Element `n` of a row is element `(b, n)` of the array. -/
theorem row_emb (b : Fin 100) (n : Fin 10000) (x : S10000.Idx) (hx : x 0 = n) :
    (rowRef b).view.emb x = wordsRef.view.emb (cellAt b n.val) := by
  unfold rowRef
  show wordsRef.view.emb ((Rect.unit (s := S100x10000) ![1 * b.val, 0] S1x10000.size (inb_source b)).emb (Shape.reshapeEquiv _ x)) = _
  refine congrArg _ ?_
  have hn := n.isLt
  have e : Shape.reshapeEquiv (squeezes_S1x10000_S10000).numel_eq x = (fun a => match a with | ⟨0, _⟩ => (0 : Fin 1) | ⟨1, _⟩ => n : S1x10000.Idx) := by
    refine Shape.reshapeEquiv_eq_of_rowMajor _ ?_
    rw [Shape.rowMajor_val_two, Shape.rowMajor_val_one]
    show 0 * 10000 + n.val = (x 0).val
    rw [hx]; omega
  rw [e]
  funext a; refine Fin.ext ?_
  fin_cases a
  · show 1 * b.val + 1 * 0 = b.val
    omega
  · show 0 + 1 * n.val = n.val % 10000
    rw [Nat.mod_eq_of_lt hn]; omega

/-- A slot into which row `b` was copied holds that row's voxel numbers. -/
theorem landed_words (c : Dev nD) (W : CellsOf (F := F) c wordsRef) (b : Fin 100) (hW : ∀ n, (word c W b n).toNat < 32768) (s : Fin 2)
    (f : CellsOf (F := F) c (slotRef s)) :
    Pool.Words (c : Thread nD τ) scratchRef (slotRef s).view.set (landed c W s b f) s.val (word c W b) where
  lt n _ := hW n
  sub n off inb h hn := by
    subst h
    intro i hi
    obtain ⟨y, -, rfl⟩ := Finset.mem_map.mp hi
    have y0 : (y 0).val < 1 := (y 0).isLt
    have y1 : (y 1).val < 1 := (y 1).isLt
    refine Finset.mem_map.mpr ⟨pointIx ⟨n, hn⟩, Finset.mem_univ _, ?_⟩
    exact slot_emb s ⟨n, hn⟩ ((Rect.unit (s := S2x10000) ![s.val, n] ![1, 1] inb).emb y)
      (by show s.val + 1 * (y 0).val = s.val; omega) (by show n + 1 * (y 1).val = n; omega) _ rfl
  read n off inb h hn y := by
    subst h
    have y0 : (y 0).val < 1 := (y 0).isLt
    have y1 : (y 1).val < 1 := (y 1).isLt
    have e := slot_emb s ⟨n, hn⟩ ((Rect.unit (s := S2x10000) ![s.val, n] ![1, 1] inb).emb y)
      (by show s.val + 1 * (y 0).val = s.val; omega) (by show n + 1 * (y 1).val = n; omega) (pointIx ⟨n, hn⟩) rfl
    have r := congrFun (View.read_writes_whole (Val := Elt F) (slotRef s).view f (ReadAs.same.apply ((rowRef b).view.read (Elt F) W))) (pointIx ⟨n, hn⟩)
    have q : (slotRef s).view.read (Elt F) (landed c W s b f) (pointIx ⟨n, hn⟩) = scratchRef.view.read (Elt F) (landed c W s b f) ((Rect.unit (s := S2x10000) ![s.val, n] ![1, 1] inb).emb y) := by
      show cast _ (landed c W s b f ((slotRef s).view.emb _)) = cast _ (landed c W s b f (scratchRef.view.emb _))
      rw [e]
    refine Eq.trans (q.symm.trans r) ?_
    exact congrArg (fun z => (W z : BitVec 32)) (row_emb b ⟨n, hn⟩ (pointIx ⟨n, hn⟩) rfl)

/-- The loop makes 500 trips. -/
theorem trips_eq : k0_t1_loop.trips = 500 := by decide +kernel

/-- The loop takes the accumulator through the whole tile. -/
theorem tile (c : Dev nD) (i : grid0.Coords) (arg1 : Memref sig .tc .hbm S100x10000 .i32) (harg1 : arg1.IsWhole)
    (arg2 : Memref sig .tc .vmem S10000x1x128 .f32) (harg2 : arg2.IsWhole) (arg3 : Memref sig .tc .vmem S32768x1x128 .f32) (harg3 : arg3.IsWhole)
    (arg4 : Memref sig .tc .smem S2x10000 .i32) (harg4 : arg4.IsWhole) (arg5 : DmaSems sig S2) (v0 : BitVec 32)
    (S : Finset (Idx (arg4.view.loc (c : Thread nD τ)))) (g : Buf (Elt F) (arg4.view.loc (c : Thread nD τ)))
    (w : ℕ → BitVec 32) (W : Pool.Words (c : Thread nD τ) arg4 S g ((i 0).val % 2) w)
    (x : Vec F S10000x1x128 .f32) (d : Vec F S32768x1x128 .f32)
    {β : Type} {kk : PUnit → Prog (TpuEff nD τ sig (Elt F) Λ₀ .tc) β} {Q : β → sProp (MT nD τ sig Unit (Elt F) ℕ (Pipeline.UD sig nD τ) ℕ)} :
    (Pool.St (c : Thread nD τ) arg2 arg3 arg4 S g x d : sProp 𝕄)
      ⊢ iprop((Pool.St (c : Thread nD τ) arg2 arg3 arg4 S g x (Pool.tileUp x w 500 d) -∗ wp frame (wpE (defs₀ (F := F)) Variants.none c none) Set.univ (kk ⟨⟩) Q)
        -∗ wp frame (wpE (defs₀ (F := F)) Variants.none c none) Set.univ
          (Scf.Loop.for k0_t1_loop k0_t1_ok ⟨⟩ (k0_t1_body (F := F) i arg1 harg1 arg2 harg2 arg3 harg3 arg4 harg4 arg5 v0) >>= kk) Q) := by
  have h := Scf.wp_for_bind frame (wpE (defs₀ (F := F)) Variants.none (c : Thread nD τ) none) Set.univ k0_t1_loop.lb k0_t1_loop.ub k0_t1_loop.st k0_t1_ok (⟨⟩ : PUnit)
    (k0_t1_body (F := F) i arg1 harg1 arg2 harg2 arg3 harg3 arg4 harg4 arg5 v0)
    (fun k _ => (Pool.St (c : Thread nD τ) arg2 arg3 arg4 S g x (Pool.tileUp x w k d) : sProp 𝕄))
    (fun k _ => trip c i arg1 harg1 arg2 harg2 arg3 harg3 arg4 harg4 arg5 v0 S g w W x (Pool.tileUp x w k.val d) k) (kk := kk) (Q := Q)
  refine h.trans ?_
  have e : Scf.trips k0_t1_loop.lb k0_t1_loop.ub k0_t1_loop.st = 500 := trips_eq
  rw [e]
  iintro H HK
  iapply H
  iintro %u HS
  iapply HK
  iexact HS

end Cert.KernelIdeal.Pooling

end
-- ==== Proof.IBody.lean ====
/- The body at the first tile, at a middle one and at the last: what it leaves in the accumulator. -/
module

public import proofs.«01_k».proof.Proof.ITile

@[expose] public section

set_option maxRecDepth 16384

noncomputable section

namespace Cert.KernelIdeal.Pooling

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen hiding hmain W_main_arg0 W_main_arg1 frame_of

variable {F : FTy → Type} [FloatOps F]

local notation "𝕄" => MT nD τ sig Unit (Elt F) ℕ (Pipeline.UD sig nD τ) ℕ

/-- The slot of a turn is the turn's number modulo two. -/
theorem slot_eq : ∀ t : Fin grid0.N, (grid0.coords t 0).val % 2 = (Ring.sl 2 t.val).val := by decide +kernel

set_option maxHeartbeats 800000 in
/-- The last tile: the tile taken in, then 0 in place of minus infinity. -/
theorem run_last (c : Dev nD) (t : Fin cfg0.N) (arg2 : Memref sig .tc .vmem S10000x1x128 .f32) (harg2 : arg2.IsWhole) (arg3 : Memref sig .tc .vmem S32768x1x128 .f32) (harg3 : arg3.IsWhole)
    (hc0 : ¬isFirst (grid0.coords t)) (hc1 : ¬hasMore (grid0.coords t)) (hc2 : isLast (grid0.coords t))
    (x : Vec F S10000x1x128 .f32) (d : Vec F S32768x1x128 .f32) (fh : CellsOf (F := F) c wordsRef) (hW : ∀ b n, (word c fh b n).toNat < 32768)
    (W : Waits sig Unit) (K : PUnit → sProp (MT nD τ sig Unit (Elt F) ℕ (Pipeline.UD sig nD τ) ℕ)) :
    iprop(owns (c : Thread nD τ) arg2 fullShare x ∗ owns (c : Thread nD τ) arg3 fullShare d ∗ Ring.inflight (flightAnd c fh) (Ring.sl 2 t.val) (Ring.bk 100 t.val) ∗ owes (c : Thread nD τ) 0 W
        ∗ (iprop(owns (c : Thread nD τ) arg2 fullShare x ∗ owns (c : Thread nD τ) arg3 fullShare (k0_pay5 (Pool.tileUp x (word c fh (Ring.bk 100 t.val)) 500 d))
            ∗ Ring.kept (cellPt c) (slotAnd c fh) (landed c fh) (Ring.sl 2 t.val) (Ring.bk 100 t.val) ∗ (∃ W', owes (c : Thread nD τ) 0 W')) -∗ K ⟨⟩))
      ⊢ wp frame (wpE (defs₀ (F := F)) Variants.none c none) Set.univ (cc0_sparse_pool_scatter (grid0.coords t) (Memref.whole main_v13) (Memref.isWhole_whole _) arg2 harg2 arg3 harg3 scratchRef (Memref.isWhole_whole _) cc0_scratch1) K := by
  haveI : Fact (¬isFirst (grid0.coords t)) := ⟨hc0⟩
  haveI : Fact (¬hasMore (grid0.coords t)) := ⟨hc1⟩
  haveI : Fact (isLast (grid0.coords t)) := ⟨hc2⟩
  simp only [cc0_sparse_pool_scatter_eq_skeleton]; unfold cc0_sparse_pool_scatter_skel
  unfold owns Ring.inflight Ring.kept
  iintro ⟨⟨%f0, %hf0, H0⟩, ⟨%f1, %hf1, H1⟩, ⟨%ff, Hf, Hrf⟩, HW, Hk⟩
  obtain rfl := harg2.eq_unread hf0; obtain rfl := harg3.eq_unread hf1
  sl_exec (disch := first | sl_exact hc0 | sl_exact hc1 | sl_exact hc2)
  have hw : Pool.Words (c : Thread nD τ) scratchRef (slotRef (Ring.sl 2 t.val)).view.set (landed c fh (Ring.sl 2 t.val) (Ring.bk 100 t.val) (slotRef (Ring.sl 2 t.val)).view.junk)
      ((grid0.coords t 0).val % 2) (word c fh (Ring.bk 100 t.val)) := by
    rw [slot_eq t]; exact landed_words c fh _ (hW _) _ _
  iapply (tile c (grid0.coords t) (Memref.whole main_v13) (Memref.isWhole_whole _) arg2 harg2 arg3 harg3 scratchRef (Memref.isWhole_whole _) cc0_scratch1 _ _ _ _ hw x d) $$ [H0 H1 Hf_dst]
  · unfold Pool.St owns
    isplitl [H0]
    · iexists _; isplitr; · ipureintro; exact harg2.read_unread _
      iexact H0
    isplitl [H1]
    · iexists _; isplitr
      swap; · iexact H1
      ipureintro; exact harg3.read_unread _
    iexact Hf_dst
  iintro HS
  unfold Pool.St owns
  icases HS with ⟨⟨%g0, %hg0, H0⟩, ⟨%g1, %hg1, H1⟩, Hf_dst⟩
  obtain rfl := harg2.eq_unread hg0; obtain rfl := harg3.eq_unread hg1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr
    swap; · iexact H1
    ipureintro
    rw [View.readAt_full, hg1]
    exact View.read_writes_full arg3.view _ _ _ _
  isplitl [Hf Hf_dst Hf_src Hrf]
  · isplitl [Hf]; · iexact Hf
    iexists _; isplitl [Hf_dst]; · iexact Hf_dst
    iapply (source_split c fh (Ring.sl 2 t.val) (Ring.bk 100 t.val)).2; isplitl [Hf_src]; · iexact Hf_src
    iexact Hrf
  iexists _; iexact HW

set_option maxHeartbeats 800000 in
/-- A middle tile: the tile taken in, the next row's copy started. -/
theorem run_middle (c : Dev nD) (t : Fin cfg0.N) (arg2 : Memref sig .tc .vmem S10000x1x128 .f32) (harg2 : arg2.IsWhole) (arg3 : Memref sig .tc .vmem S32768x1x128 .f32) (harg3 : arg3.IsWhole)
    (hc0 : ¬isFirst (grid0.coords t)) (hc1 : hasMore (grid0.coords t)) (hc2 : ¬isLast (grid0.coords t))
    (x : Vec F S10000x1x128 .f32) (d : Vec F S32768x1x128 .f32) (fh : CellsOf (F := F) c wordsRef) (hW : ∀ b n, (word c fh b n).toNat < 32768)
    (W : Waits sig Unit) (K : PUnit → sProp (MT nD τ sig Unit (Elt F) ℕ (Pipeline.UD sig nD τ) ℕ)) :
    iprop(owns (c : Thread nD τ) arg2 fullShare x ∗ owns (c : Thread nD τ) arg3 fullShare d ∗ Ring.inflight (flightAnd c fh) (Ring.sl 2 t.val) (Ring.bk 100 t.val) ∗ Ring.kept (cellPt c) (slotAnd c fh) (landed c fh) (Ring.sl 2 (t.val + 1)) (Ring.bk 100 (t.val - 1)) ∗ owes (c : Thread nD τ) 0 W
        ∗ (iprop(owns (c : Thread nD τ) arg2 fullShare x ∗ owns (c : Thread nD τ) arg3 fullShare (Pool.tileUp x (word c fh (Ring.bk 100 t.val)) 500 d)
            ∗ Ring.inflight (flightAnd c fh) (Ring.sl 2 (t.val + 1)) (Ring.bk 100 (t.val + 1)) ∗ Ring.kept (cellPt c) (slotAnd c fh) (landed c fh) (Ring.sl 2 t.val) (Ring.bk 100 t.val) ∗ (∃ W', owes (c : Thread nD τ) 0 W')) -∗ K ⟨⟩))
      ⊢ wp frame (wpE (defs₀ (F := F)) Variants.none c none) Set.univ (cc0_sparse_pool_scatter (grid0.coords t) (Memref.whole main_v13) (Memref.isWhole_whole _) arg2 harg2 arg3 harg3 scratchRef (Memref.isWhole_whole _) cc0_scratch1) K := by
  haveI : Fact (¬isFirst (grid0.coords t)) := ⟨hc0⟩
  haveI : Fact (hasMore (grid0.coords t)) := ⟨hc1⟩
  haveI : Fact (¬isLast (grid0.coords t)) := ⟨hc2⟩
  simp only [cc0_sparse_pool_scatter_eq_skeleton]; unfold cc0_sparse_pool_scatter_skel
  have hat := at_9 t hc0 hc1 hc2
  unfold owns Ring.inflight Ring.kept
  iintro ⟨⟨%f0, %hf0, H0⟩, ⟨%f1, %hf1, H1⟩, ⟨%ff, Hf, Hrf⟩, ⟨Hc1, ⟨%fs1, Hs1, Hw1⟩⟩, HW, Hk⟩
  ihave Hsp := (source_split c fh (Ring.sl 2 (t.val + 1)) (Ring.bk 100 (t.val + 1))).1 $$ Hw1
  icases Hsp with ⟨Hh1, Hr1⟩
  obtain rfl := harg2.eq_unread hf0; obtain rfl := harg3.eq_unread hf1
  sl_exec (disch := first | sl_exact hc0 | sl_exact hc1 | sl_exact hc2)
  have hw : Pool.Words (c : Thread nD τ) scratchRef (slotRef (Ring.sl 2 t.val)).view.set (landed c fh (Ring.sl 2 t.val) (Ring.bk 100 t.val) (slotRef (Ring.sl 2 t.val)).view.junk)
      ((grid0.coords t 0).val % 2) (word c fh (Ring.bk 100 t.val)) := by
    rw [slot_eq t]; exact landed_words c fh _ (hW _) _ _
  iapply (tile c (grid0.coords t) (Memref.whole main_v13) (Memref.isWhole_whole _) arg2 harg2 arg3 harg3 scratchRef (Memref.isWhole_whole _) cc0_scratch1 _ _ _ _ hw x d) $$ [H0 H1 Hf_dst]
  · unfold Pool.St owns
    isplitl [H0]
    · iexists _; isplitr; · ipureintro; exact harg2.read_unread _
      iexact H0
    isplitl [H1]
    · iexists _; isplitr
      swap; · iexact H1
      ipureintro; exact harg3.read_unread _
    iexact Hf_dst
  iintro HS
  unfold Pool.St owns
  icases HS with ⟨⟨%g0, %hg0, H0⟩, ⟨%g1, %hg1, H1⟩, Hf_dst⟩
  obtain rfl := harg2.eq_unread hg0; obtain rfl := harg3.eq_unread hg1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr
    swap; · iexact H1
    ipureintro
    exact hg1
  isplitl [Hc1 Hr1]
  · iexists _; isplitl [Hc1]; · iexact Hc1
    iexact Hr1
  isplitl [Hf Hf_dst Hf_src Hrf]
  · isplitl [Hf]; · iexact Hf
    iexists _; isplitl [Hf_dst]; · iexact Hf_dst
    iapply (source_split c fh (Ring.sl 2 t.val) (Ring.bk 100 t.val)).2; isplitl [Hf_src]; · iexact Hf_src
    iexact Hrf
  iexists _; iexact HW

set_option maxHeartbeats 800000 in
/-- The first tile: minus infinity everywhere, both copies started, the tile taken in. -/
theorem run_first (c : Dev nD) (t : Fin cfg0.N) (arg2 : Memref sig .tc .vmem S10000x1x128 .f32) (harg2 : arg2.IsWhole) (arg3 : Memref sig .tc .vmem S32768x1x128 .f32) (harg3 : arg3.IsWhole)
    (hc0 : isFirst (grid0.coords t)) (hc1 : hasMore (grid0.coords t)) (hc2 : ¬isLast (grid0.coords t))
    (x : Vec F S10000x1x128 .f32) (fh : CellsOf (F := F) c wordsRef) (hW : ∀ b n, (word c fh b n).toNat < 32768)
    (W : Waits sig Unit) (K : PUnit → sProp (MT nD τ sig Unit (Elt F) ℕ (Pipeline.UD sig nD τ) ℕ)) :
    iprop(owns (c : Thread nD τ) arg2 fullShare x ∗ (∃ d, owns (c : Thread nD τ) arg3 fullShare d) ∗ Ring.free (cellPt c) (slotAnd c fh) (Ring.sl 2 t.val) ∗ Ring.free (cellPt c) (slotAnd c fh) (Ring.sl 2 (t.val + 1)) ∗ owes (c : Thread nD τ) 0 W
        ∗ (iprop(owns (c : Thread nD τ) arg2 fullShare x ∗ owns (c : Thread nD τ) arg3 fullShare (Pool.tileUp x (word c fh (Ring.bk 100 t.val)) 500 k0_pay1)
            ∗ Ring.inflight (flightAnd c fh) (Ring.sl 2 (t.val + 1)) (Ring.bk 100 (t.val + 1)) ∗ Ring.kept (cellPt c) (slotAnd c fh) (landed c fh) (Ring.sl 2 t.val) (Ring.bk 100 t.val) ∗ (∃ W', owes (c : Thread nD τ) 0 W')) -∗ K ⟨⟩))
      ⊢ wp frame (wpE (defs₀ (F := F)) Variants.none c none) Set.univ (cc0_sparse_pool_scatter (grid0.coords t) (Memref.whole main_v13) (Memref.isWhole_whole _) arg2 harg2 arg3 harg3 scratchRef (Memref.isWhole_whole _) cc0_scratch1) K := by
  haveI : Fact (isFirst (grid0.coords t)) := ⟨hc0⟩
  haveI : Fact (hasMore (grid0.coords t)) := ⟨hc1⟩
  haveI : Fact (¬isLast (grid0.coords t)) := ⟨hc2⟩
  simp only [cc0_sparse_pool_scatter_eq_skeleton]; unfold cc0_sparse_pool_scatter_skel
  have hat1 := at_1 t hc0 hc1 hc2
  have hat2 := at_2 t hc0 hc1 hc2
  have hat3 := at_3 t hc0 hc1 hc2
  unfold owns Ring.free Ring.inflight Ring.kept
  iintro ⟨⟨%f0, %hf0, H0⟩, ⟨%d1, %f1, -, H1⟩, ⟨Hc0, ⟨%fs0, Hs0, Hw0⟩⟩, ⟨Hc1, ⟨%fs1, Hs1, Hw1⟩⟩, HW, Hk⟩
  ihave Hsp0 := (source_split c fh (Ring.sl 2 t.val) (Ring.bk 100 t.val)).1 $$ Hw0
  icases Hsp0 with ⟨Hh0, Hr0⟩
  ihave Hsp1 := (source_split c fh (Ring.sl 2 (t.val + 1)) (Ring.bk 100 (t.val + 1))).1 $$ Hw1
  icases Hsp1 with ⟨Hh1, Hr1⟩
  obtain rfl := harg2.eq_unread hf0
  sl_exec (disch := first | sl_exact hc0 | sl_exact hc1 | sl_exact hc2)
  have hw : Pool.Words (c : Thread nD τ) scratchRef (slotRef (Ring.sl 2 t.val)).view.set (landed c fh (Ring.sl 2 t.val) (Ring.bk 100 t.val) (slotRef (Ring.sl 2 t.val)).view.junk)
      ((grid0.coords t 0).val % 2) (word c fh (Ring.bk 100 t.val)) := by
    rw [slot_eq t]; exact landed_words c fh _ (hW _) _ _
  iapply (tile c (grid0.coords t) (Memref.whole main_v13) (Memref.isWhole_whole _) arg2 harg2 arg3 harg3 scratchRef (Memref.isWhole_whole _) cc0_scratch1 _ _ _ _ hw x k0_pay1) $$ [H0 H1 Hs0]
  · unfold Pool.St owns
    isplitl [H0]
    · iexists _; isplitr; · ipureintro; exact harg2.read_unread _
      iexact H0
    isplitl [H1]
    · iexists _; isplitr
      swap; · iexact H1
      ipureintro; exact View.read_writes_full arg3.view _ _ _ _
    iexact Hs0
  iintro HS
  unfold Pool.St owns
  icases HS with ⟨⟨%g0, %hg0, H0⟩, ⟨%g1, %hg1, H1⟩, Hs0⟩
  obtain rfl := harg2.eq_unread hg0; obtain rfl := harg3.eq_unread hg1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr
    swap; · iexact H1
    ipureintro
    exact hg1
  isplitl [Hc1 Hr1]
  · iexists _; isplitl [Hc1]; · iexact Hc1
    iexact Hr1
  isplitl [Hc0 Hs0 Hh0 Hr0]
  · isplitl [Hc0]; · iexact Hc0
    iexists _; isplitl [Hs0]; · iexact Hs0
    iapply (source_split c fh (Ring.sl 2 t.val) (Ring.bk 100 t.val)).2; isplitl [Hh0]; · iexact Hh0
    iexact Hr0
  iexists _; iexact HW

end Cert.KernelIdeal.Pooling

end
-- ==== Proof.IFrame.lean ====
/- The proof data of the kernel's pipeline, its body obligation at every tile, and the run of the main program. -/
module

public import proofs.«01_k».proof.Proof.IBody
public import Idealize.ShloMosaic.Lib.Claim

@[expose] public section

set_option maxRecDepth 16384

noncomputable section

namespace Cert.KernelIdeal.Pooling

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen hiding hmain W_main_arg0 W_main_arg1 frame_of

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Every word of the array of voxel numbers is a voxel's number. -/
def InRange : Prop := ∀ c b n, (word c (V m c main_v13) b n).toNat < 32768

/-- The accumulator after tile `n`'s points. -/
def runAt (c : Dev nD) : (n : ℕ) → n < cfg0.N → Vec F S32768x1x128 .f32
  | 0, hn => Pool.tileUp (iblk m c 0 ⟨0, hn⟩) (word c (V m c main_v13) (Ring.bk 100 0)) 500 k0_pay1
  | n + 1, hn => Pool.tileUp (iblk m c 0 ⟨n + 1, hn⟩) (word c (V m c main_v13) (Ring.bk 100 (n + 1))) 500 (runAt c n (Nat.lt_of_succ_lt hn))

/-- What tile `n` leaves: the last one puts 0 where minus infinity is left. -/
def outAt (c : Dev nD) (n : ℕ) (hn : n < cfg0.N) : Vec F S32768x1x128 .f32 :=
  if n = 99 then k0_pay5 (runAt m c n hn) else runAt m c n hn

/-- The first tile starts from minus infinity. -/
theorem outAt_first (c : Dev nD) (t : Fin cfg0.N) (h : t.val = 0) :
    outAt m c t.val t.isLt = Pool.tileUp (iblk m c 0 t) (word c (V m c main_v13) (Ring.bk 100 t.val)) 500 k0_pay1 := by
  obtain ⟨n, hn⟩ := t
  dsimp only at h; subst h
  exact if_neg (show ¬(0 : ℕ) = 99 by decide)

/-- A middle tile starts from what the tile before left. -/
theorem outAt_middle (c : Dev nD) (t : Fin cfg0.N) (h : 0 < t.val) (h' : t.val < 99) :
    outAt m c t.val t.isLt = Pool.tileUp (iblk m c 0 t) (word c (V m c main_v13) (Ring.bk 100 t.val)) 500
      (outAt m c (t.val - 1) (Nat.lt_of_le_of_lt (Nat.sub_le _ _) t.isLt)) := by
  obtain ⟨n, hn⟩ := t
  cases n with
  | zero => exact absurd h (Nat.lt_irrefl 0)
  | succ n =>
    dsimp only at h'
    show outAt m c (n + 1) hn = _
    unfold outAt
    rw [if_neg (by omega), if_neg (by dsimp only; omega)]
    rfl

/-- The last tile starts from what the tile before left. -/
theorem outAt_last (c : Dev nD) (t : Fin cfg0.N) (h : t.val = 99) :
    outAt m c t.val t.isLt = k0_pay5 (Pool.tileUp (iblk m c 0 t) (word c (V m c main_v13) (Ring.bk 100 t.val)) 500
      (outAt m c (t.val - 1) (Nat.lt_of_le_of_lt (Nat.sub_le _ _) t.isLt))) := by
  obtain ⟨n, hn⟩ := t
  cases n with
  | zero => exact absurd (show (0 : ℕ) = 99 from h) (by decide)
  | succ n =>
    dsimp only at h
    show outAt m c (n + 1) hn = _
    unfold outAt
    rw [if_pos h, if_neg (by dsimp only; omega)]
    rfl

/-- What is held before point `k` beside the windows: the generator's register and the ring. -/
def heldAt (c : Dev nD) (k : ℕ) : sProp 𝕄 := iprop((∃ r, prngReg c r) ∗ ringAt c (V m c main_v13) k)

/-- The proof data: each window's buffer after each tile, and what is held between tiles. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => (outAt m c t.val t.isLt)
  Φ t := heldAt m c t.val
  q _ := fullShare
  owed _ := 0

/-- The arrays are as the region finds them. -/
theorem A_eq (c : Dev nD) (w : Fin cfg0.W) : (dats m 0 c).A w = V m c (Pipeline.arrRef spec0 w) := by
  dsimp only [dats]
/-- What is held when a point starts. -/
theorem held_castSucc (c : Dev nD) (t : Fin cfg0.N) : (dats m 0 c).Φ t.castSucc = heldAt m c t.val := by
  dsimp only [dats]; simp only [Fin.coe_castSucc]
/-- What is held when a point ends. -/
theorem held_succ (c : Dev nD) (t : Fin cfg0.N) : (dats m 0 c).Φ t.succ = heldAt m c (t.val + 1) := by
  dsimp only [dats]; simp only [Fin.val_succ]
/-- The features' buffer after a point. -/
theorem after_feats (c : Dev nD) (t : Fin cfg0.N) : (dats m 0 c).after 0 t = iblk m c 0 t := by dsimp only [dats]
/-- The accumulator's buffer after a point. -/
theorem after_out (c : Dev nD) (t : Fin cfg0.N) : (dats m 0 c).after 1 t = (outAt m c t.val t.isLt) := by dsimp only [dats]
/-- The features' buffer before a point. -/
theorem before_feats (c : Dev nD) (t : Fin cfg0.N) (d) : (dats m 0 c).before 0 t d = iblk m c 0 t :=
  before_feats_of m (dats m 0 c) (A_eq m c 0) (after_feats m c) t d
/-- After the first point the accumulator's buffer is as the point before left it. -/
theorem before_out (c : Dev nD) (t : Fin cfg0.N) (h0 : 0 < t.val) (d) :
    (dats m 0 c).before 1 t d = (outAt m c (t.val - 1) (Nat.lt_of_le_of_lt (Nat.sub_le _ _) t.isLt)) := by
  have hN : t.val < 100 := lt_of_lt_of_eq t.isLt (show cfg0.N = 100 from N_0)
  rw [Dat.before_out_kept _ 1 rfl t (by omega) (Bool.eq_false_iff.mpr fun h => by have := (flush0_1 _).mp h; dsimp only at this; omega)
    (fun _ => rfl) (fun _ _ => rfl)]
  dsimp only [dats]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (featsRef t) fullShare ((dats m 0 c).before 0 t d))
    ∗ (∃ d, owns (c : Thread nD τ) (outRef t) fullShare ((dats m 0 c).before 1 t d)))

/-- What the body returns at a point. -/
def bodyPost (c : Dev nD) (t : Fin cfg0.N) : sProp 𝕄 :=
  iprop((dats m 0 c).Φ t.succ ∗ (dats m 0 c).owesAt () t.succ
    ∗ owns (c : Thread nD τ) (featsRef t) fullShare ((dats m 0 c).after 0 t)
    ∗ owns (c : Thread nD τ) (outRef t) fullShare ((dats m 0 c).after 1 t))

set_option maxHeartbeats 1200000 in
/-- The body at any point, from the three runs. -/
theorem sound_body (hR : InRange m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_feats]
  rw [after_feats, after_out]
  rw [held_castSucc m c t, held_succ m c t]
  unfold Dat.owesAt Pipeline.owesWithin
  rw [show (dats m 0 c).owed t.castSucc = 0 from rfl, show (dats m 0 c).owed t.succ = 0 from rfl]
  unfold heldAt ringAt
  have hN : t.val < 100 := lt_of_lt_of_eq t.isLt (show cfg0.N = 100 from N_0)
  by_cases h0 : t.val = 0
  · rw [outAt_first m c t h0]
    have a0 := (first_iff t).mpr (by omega)
    have a1 := (more_iff t).mpr (by omega)
    have a2 : ¬isLast (grid0.coords t) := fun h => by have := (last_iff t).mp h; omega
    rw [if_pos h0, if_neg (show ¬t.val + 1 = 0 by omega)]
    rw [Ring.At₀_eq2' _ _ _ t.val h0 (by decide : 2 ≤ 100), Ring.AtK2_one' _ _ _ _ _ t.val h0 (by decide : 1 < 100)]
    iintro ⟨⟨Hg, ⟨-, Hfr0, Hfr1⟩⟩, ⟨%W, -, HW⟩, ⟨%d0, H0⟩, ⟨%d1, H1⟩⟩
    iapply (run_first c t _ (featsWhole t) _ (outWhole t) a0 a1 a2 (iblk m c 0 t) (V m c main_v13) (hR c) W _)
    isplitl [H0]; · iexact H0
    isplitl [H1]; · iexists _; iexact H1
    isplitl [Hfr0]; · iexact Hfr0
    isplitl [Hfr1]; · iexact Hfr1
    isplitl [HW]; · iexact HW
    iintro ⟨H0, H1, Hfl, Hkp, ⟨%W', HW'⟩⟩
    isplitl [Hg Hfl Hkp]
    · isplitl [Hg]; · iexact Hg
      iapply Ring.with_homes₀
      isplitl [Hfl]; · iexact Hfl
      iexact Hkp
    isplitl [HW']
    · iexists W'; isplitr; · ipureintro; exact fun _ _ => Or.inl trivial
      iexact HW'
    isplitl [H0]; · iexact H0
    iexact H1
  · have b0 : ¬isFirst (grid0.coords t) := fun h => by have := (first_iff t).mp h; omega
    simp only [before_out m c t (Nat.pos_of_ne_zero h0)]
    by_cases h1 : t.val < 99
    · rw [outAt_middle m c t (Nat.pos_of_ne_zero h0) h1]
      have a1 := (more_iff t).mpr h1
      have a2 : ¬isLast (grid0.coords t) := fun h => by have := (last_iff t).mp h; omega
      rw [if_neg h0, if_neg (show ¬t.val + 1 = 0 by omega)]
      rw [Ring.AtK2_here _ _ _ _ _ t.val (by omega) (by omega), Ring.AtK2_next _ _ _ _ _ t.val (by omega) (by omega)]
      iintro ⟨⟨Hg, ⟨-, Hfl, Hkp⟩⟩, ⟨%W, -, HW⟩, ⟨%d0, H0⟩, ⟨%d1, H1⟩⟩
      iapply (run_middle c t _ (featsWhole t) _ (outWhole t) b0 a1 a2 (iblk m c 0 t) _ (V m c main_v13) (hR c) W _)
      isplitl [H0]; · iexact H0
      isplitl [H1]; · iexact H1
      isplitl [Hfl]; · iexact Hfl
      isplitl [Hkp]; · iexact Hkp
      isplitl [HW]; · iexact HW
      iintro ⟨H0, H1, Hfl, Hkp, ⟨%W', HW'⟩⟩
      isplitl [Hg Hfl Hkp]
      · isplitl [Hg]; · iexact Hg
        iapply (Ring.with_homes (Idealize.SL.BI.Entails.refl _))
        isplitl [Hfl]; · iexact Hfl
        iexact Hkp
      isplitl [HW']
      · iexists W'; isplitr; · ipureintro; exact fun _ _ => Or.inl trivial
        iexact HW'
      isplitl [H0]; · iexact H0
      iexact H1
    · have h99 : t.val = 99 := by omega
      rw [outAt_last m c t h99]
      have b1 : ¬hasMore (grid0.coords t) := fun h => h1 ((more_iff t).mp h)
      have a2 := (last_iff t).mpr (by omega)
      rw [if_neg h0, if_neg (show ¬t.val + 1 = 0 by omega)]
      rw [Ring.AtK2_here_last _ _ _ _ _ t.val (by omega) (by omega), Ring.AtK2_next_last _ _ _ _ _ t.val (by omega) (by omega)]
      iintro ⟨⟨Hg, ⟨-, Hfl, Hkp⟩⟩, ⟨%W, -, HW⟩, ⟨%d0, H0⟩, ⟨%d1, H1⟩⟩
      iapply (run_last c t _ (featsWhole t) _ (outWhole t) b0 b1 a2 (iblk m c 0 t) _ (V m c main_v13) (hR c) W _)
      isplitl [H0]; · iexact H0
      isplitl [H1]; · iexact H1
      isplitl [Hfl]; · iexact Hfl
      isplitl [HW]; · iexact HW
      iintro ⟨H0, H1, Hkp', ⟨%W', HW'⟩⟩
      isplitl [Hg Hkp Hkp']
      · isplitl [Hg]; · iexact Hg
        iapply (Ring.with_homes (Idealize.SL.BI.Entails.refl _))
        isplitl [Hkp]; · iexact Hkp
        iexact Hkp'
      isplitl [HW']
      · iexists W'; isplitr; · ipureintro; exact fun _ _ => Or.inl trivial
        iexact HW'
      isplitl [H0]; · iexact H0
      iexact H1

/-- The body the pipeline calls at a point. -/
theorem defs₀_row (t : Fin cfg0.N) :
    defs₀ (F := F) .tc cfg0.body (cfg0.bodyArgs t (cfg0.slots t)) = bodyAt0 t := by
  unfold defs₀; rw [Defs.onTc_tc]

/-- The body meets the pipeline's obligation at every point. -/
theorem body_obligation (hR : InRange m) (c : Dev nD) : BodyObligation (dats (F := F) m 0 c) (defs₀ (F := F)) Variants.none () Set.univ := fun t => by
  rw [bigSep_W0, bigSep_W0, defs₀_row]
  exact triple_restated (sound_body m hR c t) rfl .rfl fun _ => .rfl

/-- What the launch hands over is what is held before the first point. -/
theorem hin (c : Dev nD) : Pipeline.ΦD semsOf spec0 keptRefs (V m) c ⊢ (dats m 0 c).Φ 0 := by
  rw [handed_eq, show (dats m 0 c).Φ 0 = heldAt m c 0 from rfl]
  unfold heldAt
  iintro ⟨HR, Hg, ⟨Hq0, Hq1⟩, Hh⟩
  isplitl [Hg]; · iexact Hg
  iapply (ring_in (F := F) m c)
  isplitl [HR]; · iexact HR
  isplitl [Hq0 Hq1]
  · isplitl [Hq0]; · iexact Hq0
    iexact Hq1
  iexact Hh
/-- What is held after the last point is what the launch takes back. -/
theorem hout (c : Dev nD) : (dats m 0 c).Φ (Fin.last cfg0.N) ⊢ Pipeline.ΦD semsOf spec0 keptRefs (V m) c := by
  rw [handed_eq, show (dats m 0 c).Φ (Fin.last cfg0.N) = heldAt m c grid0.N from rfl]
  unfold heldAt
  rw [show grid0.N = 100 by rw [N_0]]
  iintro ⟨Hg, HR⟩
  ihave HX := (ring_out (F := F) m c) $$ HR
  icases HX with ⟨HR, ⟨Hq0, Hq1⟩, Hh⟩
  isplitl [HR]; · iexact HR
  isplitl [Hg]; · iexact Hg
  isplitl [Hq0 Hq1]
  · isplitl [Hq0]; · iexact Hq0
    iexact Hq1
  iexact Hh

set_option backward.isDefEq.respectTransparency.types false in
set_option maxHeartbeats 800000 in
/-- The main program runs to its end, with the arrays at the contents the proof data names and every counter at zero. -/
theorem run_main (hR : InRange m) : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 semsOf defs₀ Variants.none semsOf_facts keptRefs kept_sub m ρ main
    (hbody := fun c => (body_obligation m hR c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := hin m) (hout := hout m)

/-- The arguments end as they began and every counter is zero. -/
theorem frame_run (hR : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ hR))) ((θ_run defs _ _).mono (fun _ h => h.2) (run_main m ρ hR))

end Cert.KernelIdeal.Pooling

end
-- ==== Proof.ISeg.lean ====
/- The kernel's array of voxel numbers from the coordinates; with the coordinates in the grid every word is a voxel's number. -/
module

public import proofs.«01_k».proof.Proof.IFrame
public import proofs.«01_k».proof.Proof.Seg

@[expose] public section

set_option maxRecDepth 16384

noncomputable section

namespace Cert.KernelIdeal.Pooling

open Idealize.ShloMosaic Idealize.ShloMosaic.TcCoe Idealize.ShloMosaic.StableHlo
open Cert.KernelIdeal.Gen hiding hmain W_main_arg0 W_main_arg1 frame_of

variable {F : FTy → Type} [FloatOps F]
variable (m : (ℓ : Loc nD τ sig) → Buf (Elt F) ℓ)

set_option maxHeartbeats 4000000 in
/-- The kernel's words are the voxel numbers of the host's array, a row per tile. -/
theorem segs_eq (c : Dev nD) : V m c main_v13 = shapeCast S100x10000
    (Pool.segArr bcast_S_S1000000x3 bcast_S_S1000000 slices_S1000000x3_S1000000x1_0_0 slices_S1000000x3_S1000000x1_0_1
      slices_S1000000x3_S1000000x1_0_2 shapeCasts_S1000000x1_S1000000 (m ((c.tc : Thread nD τ).loc main_arg1))) shapeCasts_S1000000_S100x10000 := by
  unfold Pool.segArr Pool.halves
  simp only [V, V0, hostOps0, hostOps0_1, hostOps0_2, List.flatten_cons, List.flatten_nil, List.append_nil, List.cons_append, List.nil_append,
    TRef.binary, TRef.nullary, TRef.ternary, TRef.unary, TRef.toBuf, TRef.ofBuf, cast_eq]
  after_results_simp <;> rfl

set_option maxHeartbeats 4000000 in
/-- The kernel's tiles of features are the argument's, a row per point. -/
theorem feats_eq (c : Dev nD) : V m c main_v14 = shapeCast S1000000x1x128 (m ((c.tc : Thread nD τ).loc main_arg0)) shapeCasts_S1000000x128_S1000000x1x128 := by
  simp only [V, V0, hostOps0, hostOps0_1, hostOps0_2, List.flatten_cons, List.flatten_nil, List.append_nil, List.cons_append, List.nil_append,
    TRef.binary, TRef.nullary, TRef.ternary, TRef.unary, TRef.toBuf, TRef.ofBuf, cast_eq]
  after_results_simp <;> rfl

/-- Point `n` of tile `b`, among all. -/
def pointNo (b : Fin 100) (n : Fin 10000) : Fin 1000000 := ⟨10000 * b.val + n.val, by omega⟩

/-- The word of a point of a tile is its voxel number. -/
theorem word_eq (c : Dev nD) (b : Fin 100) (n : ℕ) :
    word c (V m c main_v13) b n = Pool.segOf (m ((c.tc : Thread nD τ).loc main_arg1)) (pointNo b (Fin.ofNat 10000 n)) := by
  have e : word c (V m c main_v13) b n = (V m c main_v13 : S100x10000.Idx → BitVec 32) (cellAt b n) := by
    unfold word wordsRef
    rfl
  rw [e, segs_eq]
  show Pool.segArr _ _ _ _ _ _ _ (Shape.reshapeEquiv shapeCasts_S1000000_S100x10000 (cellAt b n)) = _
  have r : Shape.reshapeEquiv shapeCasts_S1000000_S100x10000 (cellAt b n) = Pool.pt (pointNo b (Fin.ofNat 10000 n)) := by
    refine Shape.reshapeEquiv_eq_of_rowMajor _ ?_
    rw [Shape.rowMajor_val_one, Shape.rowMajor_val_two]
    show 10000 * b.val + n % 10000 = b.val * 10000 + n % 10000
    omega
  rw [r, Pool.segArr_at]

/-- With the coordinates in the grid every word is a voxel's number. -/
theorem inRange_of (h : ∀ c : Dev nD, Pool.InGrid (m ((c.tc : Thread nD τ).loc main_arg1))) : InRange m := fun c b n => by
  rw [word_eq]; exact Pool.segOf_lt (h c) _

end Cert.KernelIdeal.Pooling

end
-- ==== Proof.Largest.lean ====
/- The running maximum of the points that fall in a voxel, and that pairs, trips and tiles of points take it on. -/
module

public import proofs.«01_k».proof.Proof.Rows
public import Idealize.ShloMosaic.PureOps.Ideal

@[expose] public section

noncomputable section

namespace Pool

open Idealize.ShloMosaic

/-! ### Running maxima -/

/-- The largest of the first `N` values, minus infinity of none. -/
def upTo (G : ℕ → EReal) (N : ℕ) : EReal := (Finset.range N).sup G

theorem upTo_zero (G : ℕ → EReal) : upTo G 0 = ⊥ := rfl

/-- One more value. -/
theorem upTo_succ (G : ℕ → EReal) (N : ℕ) : upTo G (N + 1) = max (upTo G N) (G N) := by
  unfold upTo
  rw [Finset.range_add_one, Finset.sup_insert, max_comm]

/-- Values that agree below `N` have one maximum. -/
theorem upTo_congr {G G' : ℕ → EReal} {N : ℕ} (h : ∀ n < N, G n = G' n) : upTo G N = upTo G' N :=
  Finset.sup_congr rfl fun n hn => h n (Finset.mem_range.mp hn)

/-- The maximum of a stretch and of the next one. -/
theorem upTo_add (G : ℕ → EReal) (a b : ℕ) : upTo G (a + b) = max (upTo G a) (upTo (fun n => G (a + n)) b) := by
  induction b with
  | zero => rw [upTo_zero, max_bot_right]; rfl
  | succ b ih => rw [← Nat.add_assoc, upTo_succ, ih, upTo_succ, max_assoc]

/-- The value of a point whose voxel is `v`; minus infinity of another's. -/
def hit (s : BitVec 32) (v : ℕ) (e : EReal) : EReal := if s.toNat = v then e else ⊥

/-- A choice by a comparison's bit. -/
theorem chosen {α : Type} (p : Prop) [Decidable p] (a b : α) : (if BitVec.ofBool (decide p) = 1#1 then a else b) = if p then a else b := by
  by_cases h : p <;> simp [h]

/-! ### Rows at an index -/

/-- Channel `c`. -/
def ch (c : Fin 128) : SC.Idx
  | ⟨0, _⟩ => c

/-- A row's only axis that counts is the channel. -/
theorem row_ix (i : SR.Idx) : i = at3 (N := 1) 0 (i 2) := by
  funext a; refine Fin.ext ?_
  fin_cases a
  · show (i 0).val = 0 % 1
    have : (i 0).val < 1 := (i 0).isLt
    omega
  · show (i 1).val = 0
    have : (i 1).val < 1 := (i 1).isLt
    omega
  · rfl

/-- A row cast to its channels. -/
theorem channels_at {α : Type} (h : SR.ShapeCasts SC) (r : SR.Idx → α) (c : Fin 128) : shapeCast SC r h (ch c) = r (at3 (N := 1) 0 c) := by
  refine congrArg r ?_
  refine Shape.reshapeEquiv_eq_of_rowMajor _ ?_
  rw [Shape.rowMajor_val_one, Shape.rowMajor_val_three]
  show (0 % 1 * 1 + 0) * 128 + c.val = c.val
  omega

/-- Channels cast to a row. -/
theorem row_at {α : Type} (h : SC.ShapeCasts SR) (w : SC.Idx → α) (c : Fin 128) : shapeCast SR w h (at3 (N := 1) 0 c) = w (ch c) := by
  refine congrArg w ?_
  refine Shape.reshapeEquiv_eq_of_rowMajor _ ?_
  rw [Shape.rowMajor_val_one, Shape.rowMajor_val_three]
  show c.val = (0 % 1 * 1 + 0) * 128 + c.val
  omega

/-- An index of the accumulator is a voxel's row and a channel. -/
theorem acc_ix (i : SA.Idx) : i = at3 (N := 32768) (i 0).val (i 2) := by
  funext a; refine Fin.ext ?_
  fin_cases a
  · show (i 0).val = (i 0).val % 32768
    have : (i 0).val < 32768 := (i 0).isLt
    omega
  · show (i 1).val = 0
    have : (i 1).val < 1 := (i 1).isLt
    omega
  · rfl

/-- The accumulator with one row set, at an index. -/
theorem setRow_at {F : FTy → Type} [FloatOps F] (d : SA.Idx → F .f32) {n v : ℕ} (hv : v < 32768) (w : SR.Idx → F .f32) (c : Fin 128) :
    setRow d n w (at3 (N := 32768) v c) = if n = v then w (at3 (N := 1) 0 c) else d (at3 (N := 32768) v c) := by
  have e0 : ((at3 (N := 32768) v c) 0 : Fin 32768).val = v := Nat.mod_eq_of_lt hv
  unfold setRow VecWindow.put
  by_cases h : n = v
  · rw [if_pos h]
    have hh : ∀ a, (![n, 0, 0] : Fin 3 → ℕ) a ≤ ((at3 (N := 32768) v c) a).val ∧ ((at3 (N := 32768) v c) a).val < (![n, 0, 0] : Fin 3 → ℕ) a + SR.size a := by
      intro a; fin_cases a
      · show n ≤ v % 32768 ∧ v % 32768 < n + 1
        rw [Nat.mod_eq_of_lt hv]; omega
      · show 0 ≤ 0 ∧ 0 < 0 + 1
        omega
      · show 0 ≤ c.val ∧ c.val < 0 + 128
        have := c.isLt
        omega
    rw [dif_pos hh]
    refine congrArg w ?_
    refine (row_ix _).trans (congrArg (at3 (N := 1) 0) (Fin.ext ?_))
    show c.val - 0 = c.val
    omega
  · rw [if_neg h, dif_neg]
    intro hh
    have := hh 0
    have h1 : n ≤ v % 32768 ∧ v % 32768 < n + 1 := this
    rw [Nat.mod_eq_of_lt hv] at h1
    omega

/-! ### Points -/

/-- The f32 pattern of minus infinity. -/
theorem ofBits_bottom : Ideal.ofBits .f32 0xFF800000#32 = ⊥ := by simp [Ideal.ofBits, Ideal.ieee]

/-- What the first point of a pair stores, at a channel. -/
theorem low_at (r f : SR.Idx → Ideal .f32) (c : Fin 128) : low r f (at3 (N := 1) 0 c) = max (r (at3 (N := 1) 0 c) : EReal) (f (at3 (N := 1) 0 c)) := by
  unfold low larger
  rw [row_at]
  show max (shapeCast SC r _ (ch c) : EReal) (shapeCast SC f _ (ch c)) = _
  rw [channels_at, channels_at]

/-- What the second point of a pair stores, at a channel. -/
theorem high_at (s₀ s₁ : BitVec 32) (r₀ f₀ r₁ f₁ : SR.Idx → Ideal .f32) (c : Fin 128) : high s₀ s₁ r₀ f₀ r₁ f₁ (at3 (N := 1) 0 c)
    = max (max (r₁ (at3 (N := 1) 0 c) : EReal) (f₁ (at3 (N := 1) 0 c))) (if s₀ = s₁ then max (r₀ (at3 (N := 1) 0 c) : EReal) (f₀ (at3 (N := 1) 0 c)) else ⊥) := by
  have hbot : (FloatOps.ofBits (F := Ideal) .f32 0xFF800000#32 : EReal) = ⊥ := ofBits_bottom
  unfold high larger
  rw [row_at]
  have e₁ : (maximumf (shapeCast SC r₁) (shapeCast SC f₁) : SC.Idx → Ideal .f32) (ch c) = max (r₁ (at3 (N := 1) 0 c) : EReal) (f₁ (at3 (N := 1) 0 c)) := by
    show max (shapeCast SC r₁ _ (ch c) : EReal) (shapeCast SC f₁ _ (ch c)) = _
    rw [channels_at, channels_at]
  have e₀ : (maximumf (shapeCast SC r₀) (shapeCast SC f₀) : SC.Idx → Ideal .f32) (ch c) = max (r₀ (at3 (N := 1) 0 c) : EReal) (f₀ (at3 (N := 1) 0 c)) := by
    show max (shapeCast SC r₀ _ (ch c) : EReal) (shapeCast SC f₀ _ (ch c)) = _
    rw [channels_at, channels_at]
  refine congrArg₂ (max : EReal → EReal → EReal) e₁ ?_
  unfold Scalar.select Scalar.cmpi IntOp.cmpi
  by_cases h : s₀ = s₁
  · rw [if_pos h, if_pos (by subst h; simp)]; exact e₀
  · rw [if_neg h, if_neg ?_]
    · exact hbot
    · have : (s₀ == s₁) = false := beq_eq_false_iff_ne.mpr h
      show ¬BitVec.ofBool (s₀ == s₁) = 1#1
      rw [this]; decide

variable {x : SX.Idx → Ideal .f32} {w : ℕ → BitVec 32} (hw : ∀ n, (w n).toNat < 32768)

include hw in
/-- A pair of points takes both of them on. -/
theorem pair_at (p : ℕ) (d : SA.Idx → Ideal .f32) {v : ℕ} (hv : v < 32768) (c : Fin 128) :
    (pairUp x w p d (at3 (N := 32768) v c) : EReal)
      = max (max (d (at3 (N := 32768) v c)) (hit (w p) v (x (at3 (N := 10000) p c)))) (hit (w (p + 1)) v (x (at3 (N := 10000) (p + 1) c))) := by
  unfold pairUp
  rw [setRow_at _ hv, setRow_at _ hv, low_at, high_at]
  show (if _ then max (max (d (at3 (N := 32768) (w (p + 1)).toNat c) : EReal) (x (at3 (N := 10000) (p + 1) c)))
      (if w p = w (p + 1) then max (d (at3 (N := 32768) (w p).toNat c) : EReal) (x (at3 (N := 10000) p c)) else ⊥)
    else if _ then max (d (at3 (N := 32768) (w p).toNat c) : EReal) (x (at3 (N := 10000) p c)) else d (at3 (N := 32768) v c) : EReal) = _
  unfold hit
  by_cases h1 : (w (p + 1)).toNat = v
  · rw [if_pos h1, if_pos h1, h1]
    by_cases h0 : (w p).toNat = v
    · rw [if_pos h0, if_pos (BitVec.eq_of_toNat_eq (h0.trans h1.symm)), h0, max_max_max_comm, max_self, max_comm (x _ : EReal), max_assoc]
    · rw [if_neg h0, if_neg (fun h => h0 (by rw [h]; exact h1)), max_bot_right, max_bot_right]
  · rw [if_neg h1, if_neg h1, max_bot_right]
    by_cases h0 : (w p).toNat = v
    · rw [if_pos h0, if_pos h0, h0]
    · rw [if_neg h0, if_neg h0, max_bot_right]

/-- The value of point `n` of a tile in voxel `v`, channel `c`. -/
def valueOf (x : SX.Idx → Ideal .f32) (w : ℕ → BitVec 32) (v : ℕ) (c : Fin 128) (n : ℕ) : EReal := hit (w n) v (x (at3 (N := 10000) n c))

include hw in
/-- A pair of points takes the running maximum two points on. -/
theorem pair_on {v : ℕ} (hv : v < 32768) (c : Fin 128) (e : EReal) (p : ℕ) (d : SA.Idx → Ideal .f32)
    (h : (d (at3 (N := 32768) v c) : EReal) = max e (upTo (valueOf x w v c) p)) :
    (pairUp x w p d (at3 (N := 32768) v c) : EReal) = max e (upTo (valueOf x w v c) (p + 2)) := by
  rw [pair_at hw p d hv c, h, upTo_succ, upTo_succ, max_assoc, max_assoc, max_assoc]
  rfl

include hw in
/-- A trip of ten pairs takes it twenty points on. -/
theorem trip_on {v : ℕ} (hv : v < 32768) (c : Fin 128) (e : EReal) (p : ℕ) (d : SA.Idx → Ideal .f32)
    (h : (d (at3 (N := 32768) v c) : EReal) = max e (upTo (valueOf x w v c) p)) :
    (tripUp x w p d (at3 (N := 32768) v c) : EReal) = max e (upTo (valueOf x w v c) (p + 20)) := by
  unfold tripUp
  iterate 10 refine pair_on hw hv c e _ _ ?_
  exact h

include hw in
/-- `k` trips take it twenty times as many points on. -/
theorem tile_on {v : ℕ} (hv : v < 32768) (c : Fin 128) (d : SA.Idx → Ideal .f32) : ∀ k,
    (tileUp x w k d (at3 (N := 32768) v c) : EReal) = max (d (at3 (N := 32768) v c) : EReal) (upTo (valueOf x w v c) (20 * k))
  | 0 => by rw [Nat.mul_zero, upTo_zero, max_bot_right]; rfl
  | k + 1 => by
    show (tripUp x w (20 * k) (tileUp x w k d) _ : EReal) = _
    exact trip_on hw hv c _ _ _ (tile_on hv c d k)

end Pool

end
-- ==== Proof.Pooled.lean ====
/- The pooled value of a voxel and a channel, as plain mathematics. -/
module

public import proofs.«01_k».proof.Proof.Largest
public import proofs.«01_k».proof.Proof.Seg

@[expose] public section

noncomputable section

namespace Pool

open Idealize.ShloMosaic

abbrev SF : Shape := ⟨2, ![1000000, 128]⟩
abbrev SO : Shape := ⟨2, ![32768, 128]⟩

/-- Channel `c` of point `n`. -/
def featAt (n : Fin 1000000) (c : Fin 128) : SF.Idx
  | ⟨0, _⟩ => n
  | ⟨1, _⟩ => c

/-- Channel `c` of voxel `v`. -/
def outIx (v : Fin 32768) (c : Fin 128) : SO.Idx
  | ⟨0, _⟩ => v
  | ⟨1, _⟩ => c

/-- The value of point `n` in voxel `v`, channel `c`. -/
def given (f : SF.Idx → EReal) (x : SP3.Idx → BitVec 32) (v : ℕ) (c : Fin 128) (n : ℕ) : EReal :=
  hit (segOf x (Fin.ofNat 1000000 n)) v (f (featAt (Fin.ofNat 1000000 n) c))

/-- The largest value of channel `c` in voxel `v`, zero where no value is above minus infinity. -/
def pooled (f : SF.Idx → EReal) (x : SP3.Idx → BitVec 32) (v : ℕ) (c : Fin 128) : EReal :=
  if upTo (given f x v c) 1000000 = ⊥ then 0 else upTo (given f x v c) 1000000

/-- The maximum is minus infinity exactly when every value is. -/
theorem upTo_eq_bot {G : ℕ → EReal} {N : ℕ} : upTo G N = ⊥ ↔ ∀ n < N, G n = ⊥ := by
  unfold upTo
  rw [Finset.sup_eq_bot_iff]
  exact ⟨fun h n hn => h n (Finset.mem_range.mpr hn), fun h n hn => h n (Finset.mem_range.mp hn)⟩

/-- With every feature above minus infinity, the maximum is minus infinity exactly when the voxel has no point. -/
theorem empty_iff {f : SF.Idx → EReal} (hf : ∀ i, ⊥ < f i) (x : SP3.Idx → BitVec 32) (v : ℕ) (c : Fin 128) :
    upTo (given f x v c) 1000000 = ⊥ ↔ ∀ n : Fin 1000000, (segOf x n).toNat ≠ v := by
  rw [upTo_eq_bot]
  constructor
  · intro h n e
    have := h n.val n.isLt
    unfold given hit at this
    rw [Fin.ofNat_eq_cast, Fin.cast_val_eq_self, if_pos e] at this
    exact (hf _).ne' this
  · intro h n _
    unfold given hit
    rw [if_neg (h _)]

/-- The maximum over the numbers below `N`, as a fold over them. -/
theorem upTo_eq_fold (G : ℕ → EReal) (N : ℕ) : (Finset.univ : Finset (Fin N)).fold (max : EReal → EReal → EReal) ⊥ (fun k => G k.val) = upTo G N := by
  refine Eq.trans (b := (Finset.univ : Finset (Fin N)).sup fun k => G k.val) rfl (le_antisymm ?_ ?_)
  · exact Finset.sup_le fun k _ => Finset.le_sup (f := G) (Finset.mem_range.mpr k.isLt)
  · exact Finset.sup_le fun n hn => Finset.le_sup (f := fun k : Fin N => G k.val) (Finset.mem_univ ⟨n, Finset.mem_range.mp hn⟩)

/-- A fold of an operation that is the maximum, from minus infinity, over values numbered below `N`. -/
theorem fold_upTo {N : ℕ} (op : EReal → EReal → EReal) [Std.Commutative op] [Std.Associative op] (hop : ∀ a b, op a b = max a b)
    (b : EReal) (hb : b = ⊥) (g : Fin N → EReal) (G : ℕ → EReal) (hg : ∀ k, g k = G k.val) :
    (Finset.univ : Finset (Fin N)).fold op b g = upTo G N := by
  subst hb
  have eo : op = (max : EReal → EReal → EReal) := funext fun a => funext fun b => hop a b
  subst eo
  rw [← upTo_eq_fold]
  exact Finset.fold_congr fun k _ => hg k

/-- A sum of ones is above zero exactly when there is a term. -/
theorem count_pos {ι : Type} (s : Finset ι) : (0 : EReal) < 0 + ∑ _j ∈ s, (1 : EReal) ↔ s.Nonempty := by
  rw [zero_add]
  constructor
  · intro h
    by_contra hs
    rw [Finset.not_nonempty_iff_eq_empty] at hs
    subst hs
    exact lt_irrefl _ h
  · rintro ⟨j, hj⟩
    exact lt_of_lt_of_le zero_lt_one (Finset.single_le_sum (f := fun _ => (1 : EReal)) (fun _ _ => zero_le_one) hj)

/-- Ones added up from zero where they land are above zero exactly where one lands. -/
theorem ones_pos {s si u : Shape} (d : ScatterDims s si u) (x : FVec Ideal s .f32) (idx : IVec si 32) (upd : FVec Ideal u .f32) (i : s.Idx)
    (hx : (x i : EReal) = 0) (hu : ∀ j, (upd j : EReal) = 1) :
    (0 : EReal) < (Host.scatterAdd d x idx upd i : EReal) ↔ ∃ j, d.resultIdx? j idx = some i := by
  have e : (Host.scatterAdd d x idx upd i : EReal) = 0 + ∑ _j ∈ Finset.univ.filter (fun j => d.resultIdx? j idx = some i), (1 : EReal) := by
    unfold Host.scatterAdd
    rw [Ideal.hostScatterAdd_def]
    unfold Ideal.hostScatterAdd
    rw [hx]
    exact congrArg _ (Finset.sum_congr rfl fun j _ => hu j)
  rw [e, count_pos]
  exact ⟨fun ⟨j, hj⟩ => ⟨j, (Finset.mem_filter.mp hj).2⟩, fun ⟨j, hj⟩ => ⟨j, Finset.mem_filter.mpr ⟨Finset.mem_univ j, hj⟩⟩⟩

/-- A word below `2 ^ 31` equals a number below `2 ^ 31`, read signed, when it does unsigned. -/
theorem toInt_eq_iff {a : BitVec 32} (ha : a.toNat < 32768) (v : ℕ) : a.toInt = (v : Int) ↔ a.toNat = v := by
  rw [BitVec.toInt_eq_toNat_of_lt (by omega)]
  omega

end Pool

end
-- ==== Proof.IValue.lean ====
/- What the kernel computes: the pooled value at every voxel and channel. -/
module

public import proofs.«01_k».proof.Proof.ISeg
public import proofs.«01_k».proof.Proof.Pooled
public import Idealize.ShloMosaic.Lib.Pipeline.ValueKit

@[expose] public section

set_option maxRecDepth 16384

noncomputable section

namespace Cert.KernelIdeal.Pooling

open Idealize.ShloMosaic Idealize.ShloMosaic.TcCoe Idealize.ShloMosaic.StableHlo
open Idealize.SL Idealize.SL.Sem
open Idealize.ShloMosaic.Rounds
open Cert.KernelIdeal.Gen hiding hmain W_main_arg0 W_main_arg1 frame_of

variable (m : (ℓ : Loc nD τ sig) → Buf (Elt Ideal) ℓ) (ρ : Dev nD → PrngReg)

/-- The features a device is given. -/
def featsOf (c : Dev nD) : Pool.SF.Idx → EReal := m ((c.tc : Thread nD τ).loc main_arg0)
/-- The coordinates a device is given. -/
def coordsOf (c : Dev nD) : Pool.SP3.Idx → BitVec 32 := m ((c.tc : Thread nD τ).loc main_arg1)

/-- A tile's block is its own. -/
theorem feats_index : ∀ t : Fin cfg0.N, win0_0.index t = ![t.val, 0, 0] :=
  (by decide +kernel : ∀ t : Fin grid0.N, _)

/-- Where the element of a tile's block is in the array. -/
theorem tile_emb (t : Fin cfg0.N) (n : ℕ) (hn : n < 10000) (k : Fin 128) :
    (((win0_0.blk t).view.emb (Pool.at3 (N := 10000) n k)) 0).val = 10000 * t.val + n
      ∧ (((win0_0.blk t).view.emb (Pool.at3 (N := 10000) n k)) 1).val = 0 ∧ (((win0_0.blk t).view.emb (Pool.at3 (N := 10000) n k)) 2).val = k.val := by
  have e := feats_index t
  refine ⟨(Pipeline.Window.rect_emb_val win0_0 t (Pool.at3 (N := 10000) n k) 0).trans ?_,
    (Pipeline.Window.rect_emb_val win0_0 t (Pool.at3 (N := 10000) n k) 1).trans ?_,
    (Pipeline.Window.rect_emb_val win0_0 t (Pool.at3 (N := 10000) n k) 2).trans ?_⟩
  · rw [e]
    show t.val * 10000 + n % 10000 = _
    rw [Nat.mod_eq_of_lt hn]; omega
  · rw [e]; rfl
  · rw [e]
    show 0 * 128 + k.val = _
    omega

/-- Point `n` of tile `t`, as the pipeline brings it. -/
theorem tile_at (c : Dev nD) (t : Fin cfg0.N) (n : ℕ) (hn : n < 10000) (k : Fin 128) :
    (iblk m c 0 t (Pool.at3 (N := 10000) n k) : EReal) = featsOf m c (Pool.featAt (Fin.ofNat 1000000 (10000 * t.val + n)) k) := by
  have hN : t.val < 100 := lt_of_lt_of_eq t.isLt (show cfg0.N = 100 from N_0)
  obtain ⟨e0, e1, e2⟩ := tile_emb t n hn k
  unfold iblk
  show (((cfg0.win 0).blk t).view.read (Elt Ideal) (V m c main_v14)) _ = _
  rw [feats_eq]
  blk_simp [feats_index t]
  refine congrArg (featsOf m c) ?_
  refine Shape.reshapeEquiv_eq_of_rowMajor _ ?_
  show (Pool.SF.rowMajor (Pool.featAt (Fin.ofNat 1000000 (10000 * t.val + n)) k)).val = _
  rw [Shape.rowMajor_val_two, Shape.rowMajor_val_three]
  refine Eq.trans ?_ (congrArg₂ (fun a b : ℕ => a * 128 + b) (congrArg₂ (fun a b : ℕ => a * 1 + b) e0 e1) e2).symm
  show (10000 * t.val + n) % 1000000 * 128 + k.val = _
  rw [Nat.mod_eq_of_lt (by omega)]
  omega

/-- The value of point `n` of tile `t` is that of the point among all. -/
theorem given_at (c : Dev nD) (n : ℕ) (hn : n < cfg0.N) (v : ℕ) (k : Fin 128) (p : ℕ) (hp : p < 10000) :
    Pool.valueOf (iblk m c 0 ⟨n, hn⟩) (word c (V m c main_v13) (Ring.bk 100 n)) v k p
      = Pool.given (featsOf m c) (coordsOf m c) v k (10000 * n + p) := by
  have hN : n < 100 := lt_of_lt_of_eq hn (show cfg0.N = 100 from N_0)
  have e : pointNo (Ring.bk 100 n) (Fin.ofNat 10000 p) = Fin.ofNat 1000000 (10000 * n + p) := by
    refine Fin.ext ?_
    show 10000 * (n % 100) + p % 10000 = (10000 * n + p) % 1000000
    omega
  unfold Pool.valueOf Pool.given
  rw [word_eq, tile_at m c ⟨n, hn⟩ p hp k, e]
  rfl

/-- Minus infinity is what the first tile fills the accumulator with. -/
theorem fill_at (i : S32768x1x128.Idx) : (k0_pay1 (F := Ideal) i : EReal) = ⊥ := by
  unfold k0_pay1
  exact Pool.ofBits_bottom

/-- After tile `n` the accumulator holds the maximum of the tiles' points so far. -/
theorem run_at (hR : InRange m) (c : Dev nD) {v : ℕ} (hv : v < 32768) (k : Fin 128) : ∀ (n : ℕ) (hn : n < cfg0.N),
    (runAt m c n hn (Pool.at3 (N := 32768) v k) : EReal) = Pool.upTo (Pool.given (featsOf m c) (coordsOf m c) v k) (10000 * (n + 1))
  | 0, hn => by
    refine (Pool.tile_on (hR c _) hv k _ _).trans ?_
    rw [fill_at, max_bot_left]
    refine Pool.upTo_congr fun p hp => ?_
    rw [given_at m c 0 hn v k p hp, Nat.mul_zero, Nat.zero_add]
  | n + 1, hn => by
    refine (Pool.tile_on (hR c _) hv k _ _).trans ?_
    rw [run_at hR c hv k n, Nat.mul_succ 10000 (n + 1), Pool.upTo_add]
    refine congrArg _ (Pool.upTo_congr fun p hp => ?_)
    exact given_at m c (n + 1) hn v k p hp

/-- The last tile puts zero where minus infinity is left. -/
theorem clear_at (a : S32768x1x128.Idx → Ideal .f32) (i : S32768x1x128.Idx) :
    (k0_pay5 (F := Ideal) a i : EReal) = if (a i : EReal) = ⊥ then 0 else a i := by
  unfold k0_pay5
  rw [shapeCast_self]
  have e : (if BitVec.ofBool (decide ((a i : EReal) = Ideal.ofBits .f32 0xFF800000#32)) = 1#1 then Ideal.ofBits .f32 0x00000000#32 else (a i : EReal))
      = if (a i : EReal) = ⊥ then 0 else a i := by
    rw [Pool.chosen, Pool.ofBits_bottom, Ideal.ofBits_zero_f32]
  exact e

/-- The accumulator after the last tile is the pooled value. -/
theorem last_at (hR : InRange m) (c : Dev nD) (v : ℕ) (hv : v < 32768) (k : Fin 128) (hn : 99 < cfg0.N) :
    (outAt m c 99 hn (Pool.at3 (N := 32768) v k) : EReal) = Pool.pooled (featsOf m c) (coordsOf m c) v k := by
  unfold outAt
  rw [if_pos rfl, clear_at, run_at m hR c hv k]
  rfl

/-- The whole result, as plain mathematics of the arguments. -/
def wanted (c : Dev nD) : S32768x128.Idx → EReal := fun j => Pool.pooled (featsOf m c) (coordsOf m c) (j 0).val (j 1)

/-- The accumulator's array after the run is what the last tile left. -/
theorem final (c : Dev nD) (t₀ : Fin cfg0.N) (h₀ : t₀.val = 99) : (dats m 0 c).arrAt 1 cfg0.N = outAt m c t₀.val t₀.isLt := by
  refine (dats m 0 c).arrAt_eq_of_after_last 1 t₀ ⟨?_, fun t h => ?_, fun a => ?_⟩ _ fun j => ?_
  · exact (flush0_1 _).mpr (by rw [h₀])
  · have := (flush0_1 t).mp h
    have hN : t.val < 100 := lt_of_lt_of_eq t.isLt (show cfg0.N = 100 from N_0)
    exact Fin.ext (by omega)
  · fin_cases a <;> exact ⟨rfl, rfl⟩
  · blk_simp
    rw [after_out]

/-- The result's array after the run is the pooled values. -/
theorem result_eq (hR : InRange m) (c : Dev nD) : Pipeline.afterTail₀ cfgs (dats m) 0 (V0 m) [hostOps1] c main_v16 = wanted m c := by
  have hn : 99 < cfg0.N := lt_of_lt_of_eq (by decide : 99 < 100) (show 100 = cfg0.N from N_0.symm)
  have e : Pipeline.withArrays spec0 c (V0 m c) (fun w => (dats m 0 c).arrAt w cfg0.N) (Proc.devRef .tc main_v15) = outAt m c 99 hn :=
    (Pipeline.withArrays_arr spec0 (by decide) c _ _ 1).trans (final m c ⟨99, hn⟩ rfl)
  unfold Pipeline.afterTail₀
  simp only [hostOps1, List.flatten_cons, List.flatten_nil, List.append_nil, List.cons_append, List.nil_append]
  after_results_simp
  funext j
  refine (congrArg (fun a => shapeCast S32768x128 a shapeCasts_S32768x1x128_S32768x128 j) e).trans ?_
  have r : Shape.reshapeEquiv shapeCasts_S32768x1x128_S32768x128 j = Pool.at3 (N := 32768) (j 0).val (j 1) := by
    refine Shape.reshapeEquiv_eq_of_rowMajor _ ?_
    rw [Shape.rowMajor_val_two, Shape.rowMajor_val_three]
    have hj : (j 0).val < 32768 := (j 0).isLt
    show ((j 0).val % 32768 * 1 + 0) * 128 + (j 1).val = (j 0).val * 128 + (j 1).val
    omega
  refine (congrArg (outAt m c 99 hn) r).trans ?_
  exact last_at m hR c (j 0).val (j 0).isLt (j 1) hn

/-- The kernel ends with the pooled values as its result and its arguments as they were. -/
theorem value_run (hR : InRange m) : θ_run defs (onTc (τ := τ) (main (F := Ideal))) ⟨m, fun _ => 0, ρ⟩ (fun r => ∀ c : Dev nD,
      r.2.mem ((c.tc : Thread nD τ).loc main_v16) = wanted m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1.1 c).2 main_v16 (Pipeline.mem_restRefs_of main_v16 (by decide) (by decide)) |>.trans (result_eq m hR c), h.2.1 c⟩)
    (θ_run_and (run_main m ρ hR) (frame_run m ρ hR))

end Cert.KernelIdeal.Pooling

end
-- ==== Proof.RValue.lean ====
/- What the reference computes: the pooled value at every voxel and channel. -/
module

public import proofs.«01_k».proof.Proof.Gen.ReferenceIdeal.Run
public import proofs.«01_k».proof.Proof.Pooled
public import Idealize.ShloMosaic.Lib.Routing.OpsPair
public import Idealize.ShloMosaic.Lib.IdealHost

@[expose] public section

set_option maxRecDepth 16384

noncomputable section

namespace Cert.ReferenceIdeal.Pooling

open Idealize.ShloMosaic Idealize.ShloMosaic.TcCoe Idealize.ShloMosaic.StableHlo
open Idealize.SL Idealize.SL.Sem
open Cert.ReferenceIdeal Cert.ReferenceIdeal.Gen Cert.ReferenceIdeal.Value

/-- How many points fall in each voxel, in the host's operations. -/
def countArr (seg : S1000000.Idx → BitVec 32) : S32768.Idx → Ideal .f32 :=
  Host.scatterAdd (F := Ideal) scatter_S32768_S1000000x1_S1000000_n_0_0_1 (broadcastInDim S32768 ![] bcast_S_S32768 (constant S_ .f32 0x00000000#32))
    (broadcastInDim S1000000x1 ![0] bcast_S1000000_S1000000x1_0 seg) (broadcastInDim S1000000 ![] bcast_S_S1000000 (constant S_ .f32 0x3F800000#32))

/-- Every point's features where it falls in a voxel, minus infinity elsewhere, in the host's operations. -/
def maskArr (seg : S1000000.Idx → BitVec 32) (f : S1000000x128.Idx → Ideal .f32) : S32768x1000000x128.Idx → Ideal .f32 :=
  select (broadcastInDim S32768x1000000x128 ![0, 1, 2] bcast_S32768x1000000x1_S32768x1000000x128_0_1_2 (broadcastInDim S32768x1000000x1 ![0, 1] bcast_S32768x1000000_S32768x1000000x1_0_1
      (cmpi .eq (broadcastInDim S32768x1000000 ![0, 1] bcast_S1x1000000_S32768x1000000_0_1 (broadcastInDim S1x1000000 ![1] bcast_S1000000_S1x1000000_1 seg))
        (broadcastInDim S32768x1000000 ![0, 1] bcast_S32768x1_S32768x1000000_0_1 (broadcastInDim S32768x1 ![0] bcast_S32768_S32768x1_0 (iotaInDim S32768 32 0))))))
    (broadcastInDim S32768x1000000x128 ![0, 1, 2] bcast_S1x1000000x128_S32768x1000000x128_0_1_2 (broadcastInDim S1x1000000x128 ![1, 2] bcast_S1000000x128_S1x1000000x128_1_2 f))
    (broadcastInDim S32768x1000000x128 ![] bcast_S_S32768x1000000x128 (constant S_ .f32 0xFF800000#32))

/-- The largest feature of each voxel, in the host's operations. -/
def peakArr (seg : S1000000.Idx → BitVec 32) (f : S1000000x128.Idx → Ideal .f32) : S32768x128.Idx → Ideal .f32 :=
  Host.reduce FloatOps.maximumf (maskArr seg f) (constant S_ .f32 0xFF800000#32) reducesTo_S32768x1000000x128_S32768x128_d1 h_S_

/-- The reference's result, in the host's operations. -/
def poolArr (seg : S1000000.Idx → BitVec 32) (f : S1000000x128.Idx → Ideal .f32) : S32768x128.Idx → Ideal .f32 :=
  select (broadcastInDim S32768x128 ![0, 1] bcast_S32768x1_S32768x128_0_1 (cmpf .ogt (broadcastInDim S32768x1 ![0] bcast_S32768_S32768x1_0 (countArr seg))
      (broadcastInDim S32768x1 ![] bcast_S_S32768x1 (constant S_ .f32 0x00000000#32))))
    (peakArr seg f) (broadcastInDim S32768x128 ![] bcast_S_S32768x128 (constant S_ .f32 0x00000000#32))

variable (m : (ℓ : Loc nD τ sig) → Buf (Elt Ideal) ℓ)

/-- The reference's result is that term of its arguments. -/
theorem res_eq (c : Dev nD) : res_main_v30 m c = poolArr
    (Pool.segArr bcast_S_S1000000x3 bcast_S_S1000000 slices_S1000000x3_S1000000x1_0_0 slices_S1000000x3_S1000000x1_0_1
      slices_S1000000x3_S1000000x1_0_2 shapeCasts_S1000000x1_S1000000 (m ((c.tc : Thread nD τ).loc main_arg1)))
    (m ((c.tc : Thread nD τ).loc main_arg0)) := by
  unfold res_main_v30 poolArr peakArr maskArr countArr Pool.segArr Pool.halves
  rfl

/-- Voxel `v`. -/
def vox (v : Fin 32768) : S32768.Idx
  | ⟨0, _⟩ => v

/-- The column's element of point `n`. -/
def pt1 (n : Fin 1000000) : S1000000x1.Idx
  | ⟨0, _⟩ => n
  | ⟨1, _⟩ => (0 : Fin 1)

/-- The masked array's element of voxel `v`, point `n`, channel `k`. -/
def cell (v : Fin 32768) (n : Fin 1000000) (k : Fin 128) : S32768x1000000x128.Idx
  | ⟨0, _⟩ => v
  | ⟨1, _⟩ => n
  | ⟨2, _⟩ => k

/-- The column of voxel numbers holds each point's. -/
theorem column_eq (seg : S1000000.Idx → BitVec 32) (n : Fin 1000000) :
    broadcastInDim S1000000x1 ![0] bcast_S1000000_S1000000x1_0 seg (pt1 n) = seg (Pool.pt n) := by
  refine congrArg seg (funext fun a => ?_)
  fin_cases a
  rfl

/-- Point `n` is counted in voxel `v` exactly when its number is `v`. -/
theorem lands_iff (seg : S1000000.Idx → BitVec 32) (hs : ∀ n, (seg (Pool.pt n)).toNat < 32768) (n : Fin 1000000) (v : Fin 32768) :
    (scatter_S32768_S1000000x1_S1000000_n_0_0_1).resultIdx? (Pool.pt n) (broadcastInDim S1000000x1 ![0] bcast_S1000000_S1000000x1_0 seg) = some (vox v)
      ↔ (seg (Pool.pt n)).toNat = v.val := by
  rw [Routing.resultIdx?_eq_some]
  have e0 : (scatter_S32768_S1000000x1_S1000000_n_0_0_1).start (Pool.pt n) (broadcastInDim S1000000x1 ![0] bcast_S1000000_S1000000x1_0 seg) 0
      = (seg (Pool.pt n)).toInt := by
    unfold ScatterDims.start
    rw [dif_pos (by decide)]
    refine congrArg BitVec.toInt ((congrArg (broadcastInDim S1000000x1 ![0] bcast_S1000000_S1000000x1_0 seg) (funext fun a => ?_)).trans (column_eq seg n))
    fin_cases a
    · exact Fin.ext rfl
    · exact Fin.ext rfl
  have e1 : (scatter_S32768_S1000000x1_S1000000_n_0_0_1).window (Pool.pt n) 0 = 0 := by
    unfold ScatterDims.window
    rw [dif_neg (by decide)]
  constructor
  · intro h
    have := h 0
    rw [e0, e1] at this
    refine (Pool.toInt_eq_iff (hs n) v.val).mp ?_
    rw [Nat.cast_zero, add_zero] at this
    exact this
  · intro h a
    have ea : a = 0 := Subsingleton.elim _ _
    subst ea
    rw [e0, e1, (Pool.toInt_eq_iff (hs n) v.val).mpr h]
    rw [Nat.cast_zero, add_zero]
    rfl

/-- The count of voxel `v` is above zero exactly when a point's number is `v`. -/
theorem count_iff (seg : S1000000.Idx → BitVec 32) (hs : ∀ n, (seg (Pool.pt n)).toNat < 32768) (v : Fin 32768) :
    (0 : EReal) < countArr seg (vox v) ↔ ∃ n : Fin 1000000, (seg (Pool.pt n)).toNat = v.val := by
  unfold countArr
  refine (Pool.ones_pos scatter_S32768_S1000000x1_S1000000_n_0_0_1 _ _ _ (vox v) ?_ fun j => ?_).trans ?_
  · exact Ideal.ofBits_zero_f32
  · exact Ideal.ofBits_one_f32
  constructor
  · rintro ⟨j, hj⟩
    have ej : j = Pool.pt (j 0) := by funext a; fin_cases a; rfl
    rw [ej] at hj
    exact ⟨j 0, (lands_iff seg hs (j 0) v).mp hj⟩
  · rintro ⟨n, hn⟩
    exact ⟨Pool.pt n, (lands_iff seg hs n v).mpr hn⟩

/-- The masked array at an element. -/
theorem mask_at (seg : S1000000.Idx → BitVec 32) (f : S1000000x128.Idx → Ideal .f32) (v : Fin 32768) (n : Fin 1000000) (k : Fin 128) :
    (maskArr seg f (cell v n k) : EReal) = Pool.hit (seg (Pool.pt n)) v.val (f (Pool.featAt n k)) := by
  have e : (if IntOp.cmpi .eq (seg (Pool.pt n)) (BitVec.ofNat 32 v.val) = 1#1 then (f (Pool.featAt n k) : EReal) else Ideal.ofBits .f32 0xFF800000#32)
      = Pool.hit (seg (Pool.pt n)) v.val (f (Pool.featAt n k)) := by
    unfold Pool.hit
    rw [Pool.ofBits_bottom]
    have hv := v.isLt
    by_cases h : (seg (Pool.pt n)).toNat = v.val
    · rw [if_pos h, if_pos]
      have : seg (Pool.pt n) = BitVec.ofNat 32 v.val := BitVec.eq_of_toNat_eq (by rw [h, BitVec.toNat_ofNat]; omega)
      rw [this]
      show BitVec.ofBool (_ == _) = 1#1
      rw [beq_self_eq_true]; rfl
    · rw [if_neg h, if_neg]
      have : (seg (Pool.pt n) == BitVec.ofNat 32 v.val) = false :=
        beq_eq_false_iff_ne.mpr fun e => h (by rw [e, BitVec.toNat_ofNat]; omega)
      show ¬BitVec.ofBool (_ == _) = 1#1
      rw [this]; decide
  refine Eq.trans ?_ e
  unfold maskArr select
  have i1 : broadcastInDim S32768x1000000x128 ![0, 1, 2] bcast_S32768x1000000x1_S32768x1000000x128_0_1_2 (broadcastInDim S32768x1000000x1 ![0, 1] bcast_S32768x1000000_S32768x1000000x1_0_1
      (cmpi .eq (broadcastInDim S32768x1000000 ![0, 1] bcast_S1x1000000_S32768x1000000_0_1 (broadcastInDim S1x1000000 ![1] bcast_S1000000_S1x1000000_1 seg))
        (broadcastInDim S32768x1000000 ![0, 1] bcast_S32768x1_S32768x1000000_0_1 (broadcastInDim S32768x1 ![0] bcast_S32768_S32768x1_0 (iotaInDim S32768 32 0))))) (cell v n k)
      = IntOp.cmpi .eq (seg (Pool.pt n)) (BitVec.ofNat 32 v.val) := by
    refine congrArg₂ (IntOp.cmpi .eq) (congrArg seg (funext fun a => ?_)) rfl
    fin_cases a
    rfl
  have i2 : broadcastInDim S32768x1000000x128 ![0, 1, 2] bcast_S1x1000000x128_S32768x1000000x128_0_1_2 (broadcastInDim S1x1000000x128 ![1, 2] bcast_S1000000x128_S1x1000000x128_1_2 f) (cell v n k)
      = f (Pool.featAt n k) := by
    refine congrArg f (funext fun a => ?_)
    fin_cases a <;> rfl
  dsimp only
  rw [i1, i2]
  rfl

/-- Where the reduction reads point `n` of voxel `v`, channel `k`. -/
theorem lift_eq (hr : S32768x1000000x128.Reduces [1] S32768x128) (v : Fin 32768) (k : Fin 128) (n : Fin 1000000) :
    hr.lift (Pool.outIx v k) n = cell v n k := by
  funext a; fin_cases a <;> exact Fin.ext rfl

/-- What the reduction reads there. -/
theorem mask_lift (hr : S32768x1000000x128.Reduces [1] S32768x128) (seg : S1000000.Idx → BitVec 32) (f : S1000000x128.Idx → Ideal .f32) (v : Fin 32768) (k : Fin 128)
    (n : Fin 1000000) : (maskArr seg f (hr.lift (Pool.outIx v k) n) : EReal)
      = Pool.hit (seg (Pool.pt (Fin.ofNat 1000000 n.val))) v.val (f (Pool.featAt (Fin.ofNat 1000000 n.val) k)) := by
  rw [lift_eq, Fin.ofNat_eq_cast, Fin.cast_val_eq_self, mask_at]

/-- The largest feature of a voxel, as the running maximum over all points. -/
theorem peak_at (seg : S1000000.Idx → BitVec 32) (f : S1000000x128.Idx → Ideal .f32) (v : Fin 32768) (k : Fin 128) :
    (peakArr seg f (Pool.outIx v k) : EReal)
      = Pool.upTo (fun n => Pool.hit (seg (Pool.pt (Fin.ofNat 1000000 n))) v.val (f (Pool.featAt (Fin.ofNat 1000000 n) k))) 1000000 := by
  have hr : S32768x1000000x128.Reduces [1] S32768x128 := by decide
  unfold peakArr
  rw [Host.reduce_eq_fold_single FloatOps.maximumf _ _ _ hr]
  exact Pool.fold_upTo _ (fun _ _ => rfl) _ Pool.ofBits_bottom _ _ fun n => mask_lift hr seg f v k n

/-- A choice between two arrays by whether a voxel's count is above zero, at an element. -/
theorem choice_at (C : S32768.Idx → Ideal .f32) (P : S32768x128.Idx → Ideal .f32) (v : Fin 32768) (k : Fin 128) :
    (select (broadcastInDim S32768x128 ![0, 1] bcast_S32768x1_S32768x128_0_1 (cmpf .ogt (broadcastInDim S32768x1 ![0] bcast_S32768_S32768x1_0 C)
      (broadcastInDim S32768x1 ![] bcast_S_S32768x1 (constant S_ .f32 0x00000000#32))))
      P (broadcastInDim S32768x128 ![] bcast_S_S32768x128 (constant (F := Ideal) S_ .f32 0x00000000#32) : S32768x128.Idx → Ideal .f32) (Pool.outIx v k) : Ideal .f32)
      = if (0 : EReal) < C (vox v) then (P (Pool.outIx v k) : EReal) else 0 := by
  have e : (if BitVec.ofBool (decide ((Ideal.ofBits .f32 0x00000000#32 : EReal) < C (vox v))) = 1#1 then (P (Pool.outIx v k) : EReal) else Ideal.ofBits .f32 0x00000000#32)
      = if (0 : EReal) < C (vox v) then (P (Pool.outIx v k) : EReal) else 0 := by
    rw [Pool.chosen, Ideal.ofBits_zero_f32]
  refine Eq.trans ?_ e
  have i : broadcastInDim S32768x128 ![0, 1] bcast_S32768x1_S32768x128_0_1 (broadcastInDim S32768x1 ![0] bcast_S32768_S32768x1_0 C) (Pool.outIx v k) = C (vox v) := by
    refine congrArg C (funext fun a => ?_)
    fin_cases a
    rfl
  rw [← i]
  rfl

/-- The reference's result at an element. -/
theorem pool_at (seg : S1000000.Idx → BitVec 32) (f : S1000000x128.Idx → Ideal .f32) (v : Fin 32768) (k : Fin 128) :
    (poolArr seg f (Pool.outIx v k) : EReal) = if (0 : EReal) < countArr seg (vox v) then (peakArr seg f (Pool.outIx v k) : EReal) else 0 :=
  choice_at (countArr seg) (peakArr seg f) v k

/-- With the coordinates in the grid and every feature above minus infinity, the reference's result is the pooled values. -/
theorem result_eq (c : Dev nD) (x : Pool.SP3.Idx → BitVec 32) (hx : m ((c.tc : Thread nD τ).loc main_arg1) = x) (f : Pool.SF.Idx → EReal)
    (hf : m ((c.tc : Thread nD τ).loc main_arg0) = f) (hg : Pool.InGrid x) (ha : ∀ i, ⊥ < f i) (j : S32768x128.Idx) :
    (res_main_v30 m c j : EReal) = Pool.pooled f x (j 0).val (j 1) := by
  rw [res_eq, hx, hf]
  have ej : j = Pool.outIx (j 0) (j 1) := by funext a; fin_cases a <;> rfl
  have es : ∀ n, Pool.segArr bcast_S_S1000000x3 bcast_S_S1000000 slices_S1000000x3_S1000000x1_0_0 slices_S1000000x3_S1000000x1_0_1
      slices_S1000000x3_S1000000x1_0_2 shapeCasts_S1000000x1_S1000000 x (Pool.pt n) = Pool.segOf x n := fun n => Pool.segArr_at _ _ _ _ _ _ x n
  refine (congrArg (poolArr _ f) ej).trans ((pool_at _ f (j 0) (j 1)).trans ?_)
  have hc := count_iff (Pool.segArr bcast_S_S1000000x3 bcast_S_S1000000 slices_S1000000x3_S1000000x1_0_0 slices_S1000000x3_S1000000x1_0_1
      slices_S1000000x3_S1000000x1_0_2 shapeCasts_S1000000x1_S1000000 x) (fun n => by rw [es]; exact Pool.segOf_lt hg n) (j 0)
  simp only [es] at hc
  have hp := peak_at (Pool.segArr bcast_S_S1000000x3 bcast_S_S1000000 slices_S1000000x3_S1000000x1_0_0 slices_S1000000x3_S1000000x1_0_1
      slices_S1000000x3_S1000000x1_0_2 shapeCasts_S1000000x1_S1000000 x) f (j 0) (j 1)
  simp only [es] at hp
  have hp' : _ = Pool.upTo (Pool.given f x (j 0).val (j 1)) 1000000 := hp
  have he := Pool.empty_iff ha x (j 0).val (j 1)
  refine (ite_congr rfl (fun _ => hp') (fun _ => rfl)).trans ?_
  unfold Pool.pooled
  by_cases h : ∃ n : Fin 1000000, (Pool.segOf x n).toNat = (j 0).val
  · rw [if_pos (hc.mpr h), if_neg]
    intro e
    obtain ⟨n, hn⟩ := h
    exact he.mp e n hn
  · rw [if_neg (fun e => h (hc.mp e)), if_pos (he.mpr fun n hn => h ⟨n, hn⟩)]

end Cert.ReferenceIdeal.Pooling

end
-- ==== Proof.Pre.lean ====
/- What the preconditions say of the coordinates and of the features. -/
module

public import proofs.«01_k».proof.Defs
public import proofs.«01_k».proof.Proof.Pooled

@[expose] public section

noncomputable section

namespace Pool

open Idealize.ShloMosaic

theorem grid_facts : Cert.Pre_coords_in_grid.Facts := ⟨by decide⟩
theorem above_facts : Cert.Pre_coords_in_grid_feats_above.Facts := ⟨by decide, by decide⟩

/-- The first precondition puts every coordinate in the grid. -/
theorem grid_of_pre {F : FTy → Type} [FloatOps F] [Cert.Pre_coords_in_grid.Facts] (f : FVec F ⟨2, ![1000000, 128]⟩ .f32) (x : SP3.Idx → BitVec 32)
    (h : Cert.Pre_coords_in_grid.fn (F := F) f x = fun _ => 1#1) : InGrid x := fun y => grid_of_checks (congrFun h y)

/-- So does the second. -/
theorem grid_of_pre' {F : FTy → Type} [FloatOps F] [Cert.Pre_coords_in_grid_feats_above.Facts] (f : FVec F ⟨2, ![1000000, 128]⟩ .f32) (x : SP3.Idx → BitVec 32)
    (h : (Cert.Pre_coords_in_grid_feats_above.fn (F := F) f x).1 = fun _ => 1#1) : InGrid x := fun y => grid_of_checks (congrFun h y)

/-- The second precondition puts every feature above minus infinity. -/
theorem above_of_pre [Cert.Pre_coords_in_grid_feats_above.Facts] (f : SF.Idx → EReal) (x : SP3.Idx → BitVec 32)
    (h : (Cert.Pre_coords_in_grid_feats_above.fn (F := Ideal) f x).2 = fun _ => 1#1) : ∀ i, ⊥ < f i := fun i => by
  have e : BitVec.ofBool (decide ((Ideal.ofBits .f32 0xFF800000#32 : EReal) < f i)) = 1#1 := congrFun h i
  rw [ofBits_bottom] at e
  by_contra hn
  rw [decide_eq_false hn] at e
  exact absurd e (by decide)

end Pool

end
-- ==== Proof.lean ====
/- The certificate's claims. -/
module

public import proofs.«01_k».proof.Defs
public import proofs.«01_k».proof.Proof.KSeg
public import proofs.«01_k».proof.Proof.IValue
public import proofs.«01_k».proof.Proof.RValue
public import proofs.«01_k».proof.Proof.Pre
public import Idealize.ShloMosaic.Lib.Quiescent

@[expose] public section

noncomputable section

namespace Cert.Proof

open Idealize.ShloMosaic Idealize.SL.Sem

/-- With the coordinates in the grid the kernel ends, its arguments unchanged and every counter at zero. -/
theorem frame_kernel [h : Cert.Pre_coords_in_grid.Facts] : Cert.quiescent_Kernel (hKernel := Cert.Kernel.Gen.facts) := fun m g hp =>
  Cert.Kernel.Pooling.frame_run m g (Cert.Kernel.Pooling.inRange_of m fun c => Pool.grid_of_pre _ _ (hp c))

/-- The same of the kernel over the extended reals. -/
theorem frame_ideal [h : Cert.Pre_coords_in_grid.Facts] : Cert.quiescent_KernelIdeal (hKernelIdeal := Cert.KernelIdeal.Gen.facts) := fun m g hp =>
  Cert.KernelIdeal.Pooling.frame_run m g (Cert.KernelIdeal.Pooling.inRange_of m fun c => Pool.grid_of_pre _ _ (hp c))

/-- The same under the second precondition. -/
theorem frame_ideal_above [h : Cert.Pre_coords_in_grid_feats_above.Facts] :
    Cert.quiescent_KernelIdeal_pre_coords_in_grid_feats_above (hKernelIdeal := Cert.KernelIdeal.Gen.facts) := fun m g hp =>
  Cert.KernelIdeal.Pooling.frame_run m g (Cert.KernelIdeal.Pooling.inRange_of m fun c => Pool.grid_of_pre' _ _ (hp c).1)

/-- The reference ends, its arguments unchanged and every counter at zero. -/
theorem frame_reference : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run (F := Ideal) m g)

/-- The same under the second precondition. -/
theorem frame_reference_above [h : Cert.Pre_coords_in_grid_feats_above.Facts] :
    Cert.quiescent_ReferenceIdeal_pre_coords_in_grid_feats_above (hReferenceIdeal := Cert.ReferenceIdeal.Gen.facts) := fun m g _ =>
  (θ_run _ _ _).mono (fun r h => ⟨fun c => (h c).2, sem_eq_zero_of_no_sems rfl r.2⟩) (Cert.ReferenceIdeal.Value.run (F := Ideal) m g)

/-- With the coordinates in the grid and the features above minus infinity, the kernel and the reference over the extended reals
    leave the same result. -/
theorem value [h : Cert.Pre_coords_in_grid_feats_above.Facts] : Cert.algebraic_KernelIdeal_ReferenceIdeal_pre_coords_in_grid_feats_above
    (hKernelIdeal := Cert.KernelIdeal.Gen.facts) (hReferenceIdeal := Cert.ReferenceIdeal.Gen.facts) := fun m g m' g' hp hm => by
  have hg : ∀ c, Pool.InGrid (Cert.KernelIdeal.Pooling.coordsOf m c) := fun c => Pool.grid_of_pre' _ _ (hp c).1
  refine ⟨fun c => Cert.KernelIdeal.Pooling.wanted m c, Cert.KernelIdeal.Pooling.value_run m g (Cert.KernelIdeal.Pooling.inRange_of m hg), ?_⟩
  refine (θ_run _ _ _).mono (fun r hr c => ⟨(hr c).1.trans ?_, (hr c).2⟩) (Cert.ReferenceIdeal.Value.run (F := Ideal) m' g')
  funext j
  exact Cert.ReferenceIdeal.Pooling.result_eq m' c (Cert.KernelIdeal.Pooling.coordsOf m c) (hm c).2 (Cert.KernelIdeal.Pooling.featsOf m c) (hm c).1
    (hg c) (Pool.above_of_pre _ _ (hp c).2) j

/-- All the claims. -/
theorem claim : Cert.Claim :=
  ⟨Cert.Kernel.Gen.facts, Cert.KernelIdeal.Gen.facts, Cert.ReferenceIdeal.Gen.facts, Pool.grid_facts, Pool.above_facts,
    @frame_kernel Pool.grid_facts, @frame_ideal Pool.grid_facts, @frame_ideal_above Pool.above_facts, frame_reference,
    @frame_reference_above Pool.above_facts, trivial, @value Pool.above_facts⟩

end Cert.Proof

end
